-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite3 [hPre_finite3 : Cert.Pre_finite3.Facts] (m : (ℓ : Loc Cert.InProjIdeal.nD Cert.InProjIdeal.τ Cert.InProjIdeal.sig) → Buf (Elt Ideal) ℓ) : Prop :=
  ∀ c : Dev Cert.InProjIdeal.nD,
    (Cert.Pre_finite3.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10))).1 = (fun _ => 1#1)
    ∧ (Cert.Pre_finite3.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10))).2.1 = (fun _ => 1#1)
    ∧ (Cert.Pre_finite3.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10))).2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite3 [hPre_finite3 : Cert.Pre_finite3.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite3.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10))).1 = (fun _ => 1#1)
    ∧ (Cert.Pre_finite3.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10))).2.1 = (fun _ => 1#1)
    ∧ (Cert.Pre_finite3.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjIdeal_pre_finite3 [hInProjIdeal : Cert.InProjIdeal.Facts] [hPre_finite3 : Cert.Pre_finite3.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite3 m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_InProjRefIdeal_pre_finite3 [hInProjRefIdeal : Cert.InProjRefIdeal.Facts] [hPre_finite3 : Cert.Pre_finite3.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite3 m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)) →
    ∃ (v0 : (c : Dev Cert.OutMlpIdeal.nD) → Buf (Elt Ideal) ((c.tc : Thread Cert.OutMlpIdeal.nD Cert.OutMlpIdeal.τ).loc Cert.OutMlpIdeal.main_v4)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v4) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v23) = v0 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7))

def preserves_InProj_InProjIdeal : Prop :=
  True

def algebraic_InProjIdeal_InProjRefIdeal_pre_finite3 [hInProjIdeal : Cert.InProjIdeal.Facts] [hInProjRefIdeal : Cert.InProjRefIdeal.Facts] [hPre_finite3 : Cert.Pre_finite3.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite3 m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v47_0)) (v1 : (c : Dev Cert.InProjIdeal.nD) → Buf (Elt Ideal) ((c.tc : Thread Cert.InProjIdeal.nD Cert.InProjIdeal.τ).loc Cert.InProjIdeal.main_v47_1)) (v2 : (c : Dev Cert.InProjIdeal.nD) → Buf (Elt Ideal) ((c.tc : Thread Cert.InProjIdeal.nD Cert.InProjIdeal.τ).loc Cert.InProjIdeal.main_v47_2)) (v3 : (c : Dev Cert.InProjIdeal.nD) → Buf (Elt Ideal) ((c.tc : Thread Cert.InProjIdeal.nD Cert.InProjIdeal.τ).loc Cert.InProjIdeal.main_v47_3)) (v4 : (c : Dev Cert.InProjIdeal.nD) → Buf (Elt Ideal) ((c.tc : Thread Cert.InProjIdeal.nD Cert.InProjIdeal.τ).loc Cert.InProjIdeal.main_v47_4)) (v5 : (c : Dev Cert.InProjIdeal.nD) → Buf (Elt Ideal) ((c.tc : Thread Cert.InProjIdeal.nD Cert.InProjIdeal.τ).loc Cert.InProjIdeal.main_v47_5)) (v6 : (c : Dev Cert.InProjIdeal.nD) → Buf (Elt Ideal) ((c.tc : Thread Cert.InProjIdeal.nD Cert.InProjIdeal.τ).loc Cert.InProjIdeal.main_v47_6)) (v7 : (c : Dev Cert.InProjIdeal.nD) → Buf (Elt Ideal) ((c.tc : Thread Cert.InProjIdeal.nD Cert.InProjIdeal.τ).loc Cert.InProjIdeal.main_v47_7)) (v8 : (c : Dev Cert.InProjIdeal.nD) → Buf (Elt Ideal) ((c.tc : Thread Cert.InProjIdeal.nD Cert.InProjIdeal.τ).loc Cert.InProjIdeal.main_v47_8)) (v9 : (c : Dev Cert.InProjIdeal.nD) → Buf (Elt Ideal) ((c.tc : Thread Cert.InProjIdeal.nD Cert.InProjIdeal.τ).loc Cert.InProjIdeal.main_v47_9)) (v10 : (c : Dev Cert.InProjIdeal.nD) → Buf (Elt Ideal) ((c.tc : Thread Cert.InProjIdeal.nD Cert.InProjIdeal.τ).loc Cert.InProjIdeal.main_v47_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v47_0) = v0 c
          ∧ r.2.mem ((c.tc : Thread Cert.InProjIdeal.nD Cert.InProjIdeal.τ).loc Cert.InProjIdeal.main_v47_1) = v1 c
          ∧ r.2.mem ((c.tc : Thread Cert.InProjIdeal.nD Cert.InProjIdeal.τ).loc Cert.InProjIdeal.main_v47_2) = v2 c
          ∧ r.2.mem ((c.tc : Thread Cert.InProjIdeal.nD Cert.InProjIdeal.τ).loc Cert.InProjIdeal.main_v47_3) = v3 c
          ∧ r.2.mem ((c.tc : Thread Cert.InProjIdeal.nD Cert.InProjIdeal.τ).loc Cert.InProjIdeal.main_v47_4) = v4 c
          ∧ r.2.mem ((c.tc : Thread Cert.InProjIdeal.nD Cert.InProjIdeal.τ).loc Cert.InProjIdeal.main_v47_5) = v5 c
          ∧ r.2.mem ((c.tc : Thread Cert.InProjIdeal.nD Cert.InProjIdeal.τ).loc Cert.InProjIdeal.main_v47_6) = v6 c
          ∧ r.2.mem ((c.tc : Thread Cert.InProjIdeal.nD Cert.InProjIdeal.τ).loc Cert.InProjIdeal.main_v47_7) = v7 c
          ∧ r.2.mem ((c.tc : Thread Cert.InProjIdeal.nD Cert.InProjIdeal.τ).loc Cert.InProjIdeal.main_v47_8) = v8 c
          ∧ r.2.mem ((c.tc : Thread Cert.InProjIdeal.nD Cert.InProjIdeal.τ).loc Cert.InProjIdeal.main_v47_9) = v9 c
          ∧ r.2.mem ((c.tc : Thread Cert.InProjIdeal.nD Cert.InProjIdeal.τ).loc Cert.InProjIdeal.main_v47_10) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v174) = v0 c
          ∧ r.2.mem ((c.tc : Thread Cert.InProjRefIdeal.nD Cert.InProjRefIdeal.τ).loc Cert.InProjRefIdeal.main_v160) = v1 c
          ∧ r.2.mem ((c.tc : Thread Cert.InProjRefIdeal.nD Cert.InProjRefIdeal.τ).loc Cert.InProjRefIdeal.main_v176) = v2 c
          ∧ r.2.mem ((c.tc : Thread Cert.InProjRefIdeal.nD Cert.InProjRefIdeal.τ).loc Cert.InProjRefIdeal.main_v178) = v3 c
          ∧ r.2.mem ((c.tc : Thread Cert.InProjRefIdeal.nD Cert.InProjRefIdeal.τ).loc Cert.InProjRefIdeal.main_v181) = v4 c
          ∧ r.2.mem ((c.tc : Thread Cert.InProjRefIdeal.nD Cert.InProjRefIdeal.τ).loc Cert.InProjRefIdeal.main_v184) = v5 c
          ∧ r.2.mem ((c.tc : Thread Cert.InProjRefIdeal.nD Cert.InProjRefIdeal.τ).loc Cert.InProjRefIdeal.main_v186) = v6 c
          ∧ r.2.mem ((c.tc : Thread Cert.InProjRefIdeal.nD Cert.InProjRefIdeal.τ).loc Cert.InProjRefIdeal.main_v189) = v7 c
          ∧ r.2.mem ((c.tc : Thread Cert.InProjRefIdeal.nD Cert.InProjRefIdeal.τ).loc Cert.InProjRefIdeal.main_v192) = v8 c
          ∧ r.2.mem ((c.tc : Thread Cert.InProjRefIdeal.nD Cert.InProjRefIdeal.τ).loc Cert.InProjRefIdeal.main_v195) = v9 c
          ∧ r.2.mem ((c.tc : Thread Cert.InProjRefIdeal.nD Cert.InProjRefIdeal.τ).loc Cert.InProjRefIdeal.main_v197) = v10 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def Claim : Prop :=
  ∃ (hKernel : Cert.Kernel.Facts) (hKernelIdeal : Cert.KernelIdeal.Facts) (hReferenceIdeal : Cert.ReferenceIdeal.Facts) (hOutMlp : Cert.OutMlp.Facts) (hOutMlpIdeal : Cert.OutMlpIdeal.Facts) (hOutMlpRefIdeal : Cert.OutMlpRefIdeal.Facts) (hInProj : Cert.InProj.Facts) (hInProjIdeal : Cert.InProjIdeal.Facts) (hInProjRefIdeal : Cert.InProjRefIdeal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_InProj (hInProj := hInProj)
    ∧ quiescent_InProjIdeal (hInProjIdeal := hInProjIdeal)
    ∧ quiescent_InProjIdeal_pre_finite3 (hInProjIdeal := hInProjIdeal) (hPre_finite3 := hPre_finite3)
    ∧ quiescent_InProjRefIdeal (hInProjRefIdeal := hInProjRefIdeal)
    ∧ quiescent_InProjRefIdeal_pre_finite3 (hInProjRefIdeal := hInProjRefIdeal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_OutMlp_OutMlpIdeal
    ∧ algebraic_OutMlpIdeal_OutMlpRefIdeal (hOutMlpIdeal := hOutMlpIdeal) (hOutMlpRefIdeal := hOutMlpRefIdeal)
    ∧ preserves_InProj_InProjIdeal
    ∧ algebraic_InProjIdeal_InProjRefIdeal_pre_finite3 (hInProjIdeal := hInProjIdeal) (hInProjRefIdeal := hInProjRefIdeal) (hPre_finite3 := hPre_finite3)
-- ==== Pre_finite.lean ====
abbrev S1 : Shape := ⟨1, ![1]⟩
abbrev S6 : Shape := ⟨1, ![6]⟩
abbrev S2x16384x6x64 : Shape := ⟨4, ![2, 16384, 6, 64]⟩
abbrev S2x16384x2x64 : Shape := ⟨4, ![2, 16384, 2, 64]⟩
abbrev S_ : Shape := ⟨0, ![]⟩

class Facts : Prop where
  bcast_S_S6 : S_.BroadcastsInDim S6 (![] : Fin 0 → Fin S6.rank)
  bcast_S_S2x16384x6x64 : S_.BroadcastsInDim S2x16384x6x64 (![] : Fin 0 → Fin S2x16384x6x64.rank)
  bcast_S_S2x16384x2x64 : S_.BroadcastsInDim S2x16384x2x64 (![] : Fin 0 → Fin S2x16384x2x64.rank)

variable [Facts]

def fn {F : FTy → Type} [FloatOps F] (main_arg0 : IVec S1 32) (main_arg1 : FVec F S6 .f32) (main_arg2 : FVec F S2x16384x6x64 .f32) (main_arg3 : FVec F S2x16384x2x64 .f32) (main_arg4 : FVec F S2x16384x2x64 .f32) : IVec S6 1 × IVec S2x16384x6x64 1 × IVec S2x16384x2x64 1 :=
  let main_v0 : FVec F S6 .f32 := Host.absf main_arg1
  let main_cst : FVec F S_ .f32 := constant S_ .f32 0x7F800000#32
  let main_v1 : FVec F S6 .f32 := broadcastInDim S6 ![] bcast_S_S6 main_cst
  let main_v2 : IVec S6 1 := cmpf .olt main_v0 main_v1
  let main_v3 : FVec F S2x16384x6x64 .f32 := Host.absf main_arg2
  let main_cst_0 : FVec F S_ .f32 := constant S_ .f32 0x7F800000#32
  let main_v4 : FVec F S2x16384x6x64 .f32 := broadcastInDim S2x16384x6x64 ![] bcast_S_S2x16384x6x64 main_cst_0
  let main_v5 : IVec S2x16384x6x64 1 := cmpf .olt main_v3 main_v4
  let main_v6 : FVec F S2x16384x2x64 .f32 := Host.absf main_arg3
  let main_cst_1 : FVec F S_ .f32 := constant S_ .f32 0x7F800000#32
  let main_v7 : FVec F S2x16384x2x64 .f32 := broadcastInDim S2x16384x2x64 ![] bcast_S_S2x16384x2x64 main_cst_1
  let main_v8 : IVec S2x16384x2x64 1 := cmpf .olt main_v6 main_v7
  (main_v2, main_v5, main_v8)
-- ==== Pre_finite3.lean ====
abbrev S2x16384x1024 : Shape := ⟨3, ![2, 16384, 1024]⟩
abbrev S1024 : Shape := ⟨1, ![1024]⟩
abbrev S1024x2824 : Shape := ⟨2, ![1024, 2824]⟩
abbrev S4 : Shape := ⟨1, ![4]⟩
abbrev S64 : Shape := ⟨1, ![64]⟩
abbrev S16384x32 : Shape := ⟨2, ![16384, 32]⟩
abbrev S_ : Shape := ⟨0, ![]⟩

class Facts : Prop where
  bcast_S_S2x16384x1024 : S_.BroadcastsInDim S2x16384x1024 (![] : Fin 0 → Fin S2x16384x1024.rank)
  bcast_S_S1024 : S_.BroadcastsInDim S1024 (![] : Fin 0 → Fin S1024.rank)
  bcast_S_S1024x2824 : S_.BroadcastsInDim S1024x2824 (![] : Fin 0 → Fin S1024x2824.rank)

variable [Facts]

def fn {F : FTy → Type} [FloatOps F] (main_arg0 : FVec F S2x16384x1024 .f32) (main_arg1 : FVec F S1024 .f32) (main_arg2 : FVec F S1024x2824 .f32) (main_arg3 : FVec F S4 .f32) (main_arg4 : FVec F S4 .f32) (main_arg5 : FVec F S64 .f32) (main_arg6 : FVec F S64 .f32) (main_arg7 : FVec F S64 .f32) (main_arg8 : FVec F S64 .f32) (main_arg9 : FVec F S16384x32 .f32) (main_arg10 : FVec F S16384x32 .f32) : IVec S2x16384x1024 1 × IVec S1024 1 × IVec S1024x2824 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2824 .f32 := Host.absf main_arg2
  let main_cst_1 : FVec F S_ .f32 := constant S_ .f32 0x7F800000#32
  let main_v7 : FVec F S1024x2824 .f32 := broadcastInDim S1024x2824 ![] bcast_S_S1024x2824 main_cst_1
  let main_v8 : IVec S1024x2824 1 := cmpf .olt main_v6 main_v7
  (main_v2, main_v5, main_v8)
-- ==== Kernel.lean ====
abbrev S1 : Shape := ⟨1, ![1]⟩
abbrev S6 : Shape := ⟨1, ![6]⟩
abbrev S2x16384x6x64 : Shape := ⟨4, ![2, 16384, 6, 64]⟩
abbrev S2x16384x2x64 : Shape := ⟨4, ![2, 16384, 2, 64]⟩
abbrev S_ : Shape := ⟨0, ![]⟩
abbrev S32768x384 : Shape := ⟨2, ![32768, 384]⟩
abbrev S384x32768 : Shape := ⟨2, ![384, 32768]⟩
abbrev S32768x128 : Shape := ⟨2, ![32768, 128]⟩
abbrev S128x32768 : Shape := ⟨2, ![128, 32768]⟩
abbrev S384x1024 : Shape := ⟨2, ![384, 1024]⟩
abbrev S1024x128 : Shape := ⟨2, ![1024, 128]⟩
abbrev S128x128 : Shape := ⟨2, ![128, 128]⟩
abbrev S128x1024 : Shape := ⟨2, ![128, 1024]⟩
abbrev S1024x384 : Shape := ⟨2, ![1024, 384]⟩
abbrev S16x256x384 : Shape := ⟨3, ![16, 256, 384]⟩
abbrev S256x384 : Shape := ⟨2, ![256, 384]⟩
abbrev S64x384 : Shape := ⟨2, ![64, 384]⟩
abbrev S16x256 : Shape := ⟨2, ![16, 256]⟩
abbrev S256x128 : Shape := ⟨2, ![256, 128]⟩
abbrev S64x128 : Shape := ⟨2, ![64, 128]⟩
abbrev S128x384 : Shape := ⟨2, ![128, 384]⟩
abbrev S1x128 : Shape := ⟨2, ![1, 128]⟩
abbrev S1x384 : Shape := ⟨2, ![1, 384]⟩
abbrev S1x256x384 : Shape := ⟨3, ![1, 256, 384]⟩
abbrev S128x256 : Shape := ⟨2, ![128, 256]⟩
abbrev S64x256 : Shape := ⟨2, ![64, 256]⟩
abbrev S80x256 : Shape := ⟨2, ![80, 256]⟩
abbrev S80x384 : Shape := ⟨2, ![80, 384]⟩
abbrev S384x128 : Shape := ⟨2, ![384, 128]⟩
abbrev S384 : Shape := ⟨1, ![384]⟩

abbrev nBuf : Space → Nat
  | .hbm => 17
  | .vmem => 13
  | .smem => 2
  | _ => 0

abbrev bufTy : (tb : Table) → Fin (tcTables nBuf tb) → BufTy
  | .hbm, ⟨0, _⟩ => ⟨S1, .i32⟩
  | .hbm, ⟨1, _⟩ => ⟨S6, .f32⟩
  | .hbm, ⟨2, _⟩ => ⟨S2x16384x6x64, .f32⟩
  | .hbm, ⟨3, _⟩ => ⟨S2x16384x2x64, .f32⟩
  | .hbm, ⟨4, _⟩ => ⟨S2x16384x2x64, .f32⟩
  | .hbm, ⟨5, _⟩ => ⟨S_, .f32⟩
  | .hbm, ⟨6, _⟩ => ⟨S2x16384x6x64, .f32⟩
  | .hbm, ⟨7, _⟩ => ⟨S2x16384x6x64, .f32⟩
  | .hbm, ⟨8, _⟩ => ⟨S32768x384, .f32⟩
  | .hbm, ⟨9, _⟩ => ⟨S384x32768, .f32⟩
  | .hbm, ⟨10, _⟩ => ⟨S384x32768, .bf16⟩
  | .hbm, ⟨11, _⟩ => ⟨S32768x128, .f32⟩
  | .hbm, ⟨12, _⟩ => ⟨S32768x128, .bf16⟩
  | .hbm, ⟨13, _⟩ => ⟨S32768x128, .f32⟩
  | .hbm, ⟨14, _⟩ => ⟨S128x32768, .f32⟩
  | .hbm, ⟨15, _⟩ => ⟨S128x32768, .bf16⟩
  | .hbm, ⟨16, _⟩ => ⟨S32768x384, .bf16⟩
  | .local _ .vmem, ⟨0, _⟩ => ⟨S384x1024, .bf16⟩
  | .local _ .vmem, ⟨1, _⟩ => ⟨S384x1024, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S128x1024, .bf16⟩
  | .local _ .vmem, ⟨7, _⟩ => ⟨S128x1024, .bf16⟩
  | .local _ .vmem, ⟨8, _⟩ => ⟨S128x128, .bf16⟩
  | .local _ .vmem, ⟨9, _⟩ => ⟨S128x128, .bf16⟩
  | .local _ .vmem, ⟨10, _⟩ => ⟨S1024x384, .bf16⟩
  | .local _ .vmem, ⟨11, _⟩ => ⟨S1024x384, .bf16⟩
  | .local _ .vmem, ⟨12, _⟩ => ⟨S16x256x384, .bf16⟩
  | .local _ .smem, ⟨0, _⟩ => ⟨S1, .i32⟩
  | .local _ .smem, ⟨1, _⟩ => ⟨S6, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg0 c16384_i32
  let c1024_i32 : BitVec 32 := 1024#32
  let v1 : BitVec 32 := Scalar.muli arg1 c1024_i32
  let v2 : BitVec 32 := Scalar.addi v0 v1
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c0_i32_6 : BitVec 32 := 0#32
  let c0_i32_7 : BitVec 32 := 0#32
  ![v21.toNat, c0_i32_6.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c16384_i32 : BitVec 32 := 16384#32
  let v0 : BitVec 32 := Scalar.muli arg0 c16384_i32
  let c1024_i32 : BitVec 32 := 1024#32
  let v1 : BitVec 32 := Scalar.muli arg1 c1024_i32
  let v2 : BitVec 32 := Scalar.addi v0 v1
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c0_i32_6 : BitVec 32 := 0#32
  let c0_i32_7 : BitVec 32 := 0#32
  ![c0_i32_6.toNat, v21.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1 : Shape := ⟨1, ![1]⟩
abbrev S6 : Shape := ⟨1, ![6]⟩
abbrev S2x16384x6x64 : Shape := ⟨4, ![2, 16384, 6, 64]⟩
abbrev S2x16384x2x64 : Shape := ⟨4, ![2, 16384, 2, 64]⟩
abbrev S2x128x128x2x3x64 : Shape := ⟨6, ![2, 128, 128, 2, 3, 64]⟩
abbrev S2x128x128x2x64 : Shape := ⟨5, ![2, 128, 128, 2, 64]⟩
abbrev S_ : Shape := ⟨0, ![]⟩
abbrev S2x129x128x2x64 : Shape := ⟨5, ![2, 129, 128, 2, 64]⟩
abbrev S2x128x256x2x64 : Shape := ⟨5, ![2, 128, 256, 2, 64]⟩
abbrev S2x128x2x256x128x3 : Shape := ⟨6, ![2, 128, 2, 256, 128, 3]⟩
abbrev S2x128x2x3x128x256 : Shape := ⟨6, ![2, 128, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x1x128x256 : Shape := ⟨6, ![1, 128, 1, 1, 128, 256]⟩
abbrev S1x1x2x3x1x1 : Shape := ⟨6, ![1, 1, 2, 3, 1, 1]⟩
abbrev S2x128x2x3x128x1 : Shape := ⟨6, ![2, 128, 2, 3, 128, 1]⟩
abbrev S2x128x2x3x128x257 : Shape := ⟨6, ![2, 128, 2, 3, 128, 257]⟩
abbrev S2x128x2x3x128 : Shape := ⟨5, ![2, 128, 2, 3, 128]⟩
abbrev S2x128x2x64x3x128 : Shape := ⟨6, ![2, 128, 2, 64, 3, 128]⟩
abbrev S32768x384 : Shape := ⟨2, ![32768, 384]⟩

abbrev nBuf : Space → Nat
  | .hbm => 87
  | .vmem => 0
  | .smem => 0
  | _ => 0

abbrev bufTy : (tb : Table) → Fin (tcTables nBuf tb) → BufTy
  | .hbm, ⟨0, _⟩ => ⟨S1, .i32⟩
  | .hbm, ⟨1, _⟩ => ⟨S6, .f32⟩
  | .hbm, ⟨2, _⟩ => ⟨S2x16384x6x64, .f32⟩
  | .hbm, ⟨3, _⟩ => ⟨S2x16384x2x64, .f32⟩
  | .hbm, ⟨4, _⟩ => ⟨S2x16384x2x64, .f32⟩
  | .hbm, ⟨5, _⟩ => ⟨S2x128x128x2x3x64, .f32⟩
  | .hbm, ⟨6, _⟩ => ⟨S2x128x128x2x64, .f32⟩
  | .hbm, ⟨7, _⟩ => ⟨S_, .i32⟩
  | .hbm, ⟨8, _⟩ => ⟨S_, .f32⟩
  | .hbm, ⟨9, _⟩ => ⟨S2x129x128x2x64, .f32⟩
  | .hbm, ⟨10, _⟩ => ⟨S2x128x128x2x64, .f32⟩
  | .hbm, ⟨11, _⟩ => ⟨S2x128x256x2x64, .f32⟩
  | .hbm, ⟨12, _⟩ => ⟨S2x128x128x2x64, .f32⟩
  | .hbm, ⟨13, _⟩ => ⟨S_, .i32⟩
  | .hbm, ⟨14, _⟩ => ⟨S_, .f32⟩
  | .hbm, ⟨15, _⟩ => ⟨S2x129x128x2x64, .f32⟩
  | .hbm, ⟨16, _⟩ => ⟨S2x128x128x2x64, .f32⟩
  | .hbm, ⟨17, _⟩ => ⟨S2x128x256x2x64, .f32⟩
  | .hbm, ⟨18, _⟩ => ⟨S2x128x2x256x128x3, .f32⟩
  | .hbm, ⟨19, _⟩ => ⟨S2x128x2x3x128x256, .f32⟩
  | .hbm, ⟨20, _⟩ => ⟨S_, .f32⟩
  | .hbm, ⟨21, _⟩ => ⟨S2x128x2x3x128x256, .f32⟩
  | .hbm, ⟨22, _⟩ => ⟨S2x128x2x3x128x256, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S128, .i32⟩
  | .hbm, ⟨44, _⟩ => ⟨S128x1x1, .i32⟩
  | .hbm, ⟨45, _⟩ => ⟨S_, .i32⟩
  | .hbm, ⟨46, _⟩ => ⟨S128x1x1, .i32⟩
  | .hbm, ⟨47, _⟩ => ⟨S128x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S128x1x256, .i1⟩
  | .hbm, ⟨53, _⟩ => ⟨S128x1x256, .i1⟩
  | .hbm, ⟨54, _⟩ => ⟨S128x1x256, .i1⟩
  | .hbm, ⟨55, _⟩ => ⟨S1x128x256, .i1⟩
  | .hbm, ⟨56, _⟩ => ⟨S128x128x256, .i1⟩
  | .hbm, ⟨57, _⟩ => ⟨S128x128x256, .i1⟩
  | .hbm, ⟨58, _⟩ => ⟨S128x128x256, .i1⟩
  | .hbm, ⟨59, _⟩ => ⟨S1x128x1x1x128x256, .i1⟩
  | .hbm, ⟨60, _⟩ => ⟨S_, .f32⟩
  | .hbm, ⟨61, _⟩ => ⟨S_, .f32⟩
  | .hbm, ⟨62, _⟩ => ⟨S2x128x2x3x128x256, .i1⟩
  | .hbm, ⟨63, _⟩ => ⟨S2x128x2x3x128x256, .f32⟩
  | .hbm, ⟨64, _⟩ => ⟨S2x128x2x3x128x256, .f32⟩
  | .hbm, ⟨65, _⟩ => ⟨S1x1x2x3x1x1, .f32⟩
  | .hbm, ⟨66, _⟩ => ⟨S2x128x2x3x128x1, .f32⟩
  | .hbm, ⟨67, _⟩ => ⟨S2x128x2x3x128x257, .f32⟩
  | .hbm, ⟨68, _⟩ => ⟨S_, .f32⟩
  | .hbm, ⟨69, _⟩ => ⟨S2x128x2x3x128, .f32⟩
  | .hbm, ⟨70, _⟩ => ⟨S_, .f32⟩
  | .hbm, ⟨71, _⟩ => ⟨S2x128x2x3x128, .f32⟩
  | .hbm, ⟨72, _⟩ => ⟨S2x128x2x3x128, .f32⟩
  | .hbm, ⟨73, _⟩ => ⟨S2x128x2x3x128x1, .f32⟩
  | .hbm, ⟨74, _⟩ => ⟨S2x128x2x3x128x257, .f32⟩
  | .hbm, ⟨75, _⟩ => ⟨S2x128x2x3x128x257, .f32⟩
  | .hbm, ⟨76, _⟩ => ⟨S2x128x2x3x128x257, .f32⟩
  | .hbm, ⟨77, _⟩ => ⟨S_, .f32⟩
  | .hbm, ⟨78, _⟩ => ⟨S2x128x2x3x128, .f32⟩
  | .hbm, ⟨79, _⟩ => ⟨S2x128x2x3x128x1, .f32⟩
  | .hbm, ⟨80, _⟩ => ⟨S2x128x2x3x128x257, .f32⟩
  | .hbm, ⟨81, _⟩ => ⟨S2x128x2x3x128x257, .f32⟩
  | .hbm, ⟨82, _⟩ => ⟨S2x128x2x3x128x256, .f32⟩
  | .hbm, ⟨83, _⟩ => ⟨S2x128x2x64x3x128, .f32⟩
  | .hbm, ⟨84, _⟩ => ⟨S2x128x128x2x3x64, .f32⟩
  | .hbm, ⟨85, _⟩ => ⟨S32768x384, .f32⟩
  | .hbm, ⟨86, _⟩ => ⟨S32768x384, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== OutMlp.lean ====
abbrev S32768x1024 : Shape := ⟨2, ![32768, 1024]⟩
abbrev S32768x384 : Shape := ⟨2, ![32768, 384]⟩
abbrev S32768x256 : Shape := ⟨2, ![32768, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x384 : Shape := ⟨2, ![1024, 384]⟩
abbrev S1024x256 : Shape := ⟨2, ![1024, 256]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x256, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x384, .bf16⟩
  | .local _ .vmem, ⟨7, _⟩ => ⟨S1024x384, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutMlpRefIdeal.lean ====
abbrev S32768x1024 : Shape := ⟨2, ![32768, 1024]⟩
abbrev S32768x384 : Shape := ⟨2, ![32768, 384]⟩
abbrev S32768x256 : Shape := ⟨2, ![32768, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x256, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S32768x384, .f32⟩
  | .hbm, ⟨9, _⟩ => ⟨S32768x256, .f32⟩
  | .hbm, ⟨10, _⟩ => ⟨S32768x384, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x4096, .f32⟩
  | .hbm, ⟨31, _⟩ => ⟨S_, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InProj.lean ====
abbrev S2x16384x1024 : Shape := ⟨3, ![2, 16384, 1024]⟩
abbrev S1024 : Shape := ⟨1, ![1024]⟩
abbrev S1024x2824 : Shape := ⟨2, ![1024, 2824]⟩
abbrev S4 : Shape := ⟨1, ![4]⟩
abbrev S64 : Shape := ⟨1, ![64]⟩
abbrev S16384x32 : Shape := ⟨2, ![16384, 32]⟩
abbrev S16384x128 : Shape := ⟨2, ![16384, 128]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x384 : Shape := ⟨2, ![1024, 384]⟩
abbrev S1024x128 : Shape := ⟨2, ![1024, 128]⟩
abbrev S1024x512 : Shape := ⟨2, ![1024, 512]⟩
abbrev S1024x256 : Shape := ⟨2, ![1024, 256]⟩
abbrev S1024x4 : Shape := ⟨2, ![1024, 4]⟩
abbrev S1024x1024 : Shape := ⟨2, ![1024, 1024]⟩
abbrev S1024x1800 : Shape := ⟨2, ![1024, 1800]⟩
abbrev S1800x1024 : Shape := ⟨2, ![1800, 1024]⟩
abbrev S1x64 : Shape := ⟨2, ![1, 64]⟩
abbrev S6x64 : Shape := ⟨2, ![6, 64]⟩
abbrev S384 : Shape := ⟨1, ![384]⟩
abbrev S2x64 : Shape := ⟨2, ![2, 64]⟩
abbrev S128 : Shape := ⟨1, ![128]⟩
abbrev S512 : Shape := ⟨1, ![512]⟩
abbrev S1x512 : Shape := ⟨2, ![1, 512]⟩
abbrev S128x1 : Shape := ⟨2, ![128, 1]⟩
abbrev S128x128 : Shape := ⟨2, ![128, 128]⟩
abbrev S8 : Shape := ⟨1, ![8]⟩
abbrev S8x1 : Shape := ⟨2, ![8, 1]⟩
abbrev S8x128 : Shape := ⟨2, ![8, 128]⟩
abbrev S32768x1024 : Shape := ⟨2, ![32768, 1024]⟩
abbrev S1x1024 : Shape := ⟨2, ![1, 1024]⟩
abbrev S32x16384 : Shape := ⟨2, ![32, 16384]⟩
abbrev S32768x384 : Shape := ⟨2, ![32768, 384]⟩
abbrev S32x4x384 : Shape := ⟨3, ![32, 4, 384]⟩
abbrev S32768x128 : Shape := ⟨2, ![32768, 128]⟩
abbrev S32768x512 : Shape := ⟨2, ![32768, 512]⟩
abbrev S384x32768 : Shape := ⟨2, ![384, 32768]⟩
abbrev S128x480x256 : Shape := ⟨3, ![128, 480, 256]⟩
abbrev S128x32768 : Shape := ⟨2, ![128, 32768]⟩
abbrev S256x32768 : Shape := ⟨2, ![256, 32768]⟩
abbrev S8x32768 : Shape := ⟨2, ![8, 32768]⟩
abbrev S32x1024 : Shape := ⟨2, ![32, 1024]⟩
abbrev S1x4x384 : Shape := ⟨3, ![1, 4, 384]⟩
abbrev S384x1024 : Shape := ⟨2, ![384, 1024]⟩
abbrev S4x480x256 : Shape := ⟨3, ![4, 480, 256]⟩
abbrev S128x1024 : Shape := ⟨2, ![128, 1024]⟩
abbrev S256x1024 : Shape := ⟨2, ![256, 1024]⟩
abbrev S8x1024 : Shape := ⟨2, ![8, 1024]⟩
abbrev S1024x1 : Shape := ⟨2, ![1024, 1]⟩
abbrev S256x384 : Shape := ⟨2, ![256, 384]⟩
abbrev S1x384 : Shape := ⟨2, ![1, 384]⟩
abbrev S4x384 : Shape := ⟨2, ![4, 384]⟩
abbrev S64x1024 : Shape := ⟨2, ![64, 1024]⟩
abbrev S16x256 : Shape := ⟨2, ![16, 256]⟩
abbrev S64x256 : Shape := ⟨2, ![64, 256]⟩
abbrev S1x64x256 : Shape := ⟨3, ![1, 64, 256]⟩
abbrev S1x16x256 : Shape := ⟨3, ![1, 16, 256]⟩

abbrev nBuf : Space → Nat
  | .hbm => 90
  | .vmem => 39
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2824, .f32⟩
  | .hbm, ⟨3, _⟩ => ⟨S4, .f32⟩
  | .hbm, ⟨4, _⟩ => ⟨S4, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16384x32, .f32⟩
  | .hbm, ⟨10, _⟩ => ⟨S16384x32, .f32⟩
  | .hbm, ⟨11, _⟩ => ⟨S16384x128, .f32⟩
  | .hbm, ⟨12, _⟩ => ⟨S16384x32, .f32⟩
  | .hbm, ⟨13, _⟩ => ⟨S16384x32, .f32⟩
  | .hbm, ⟨14, _⟩ => ⟨S16384x128, .f32⟩
  | .hbm, ⟨15, _⟩ => ⟨S256, .i32⟩
  | .hbm, ⟨16, _⟩ => ⟨S_, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S_, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .bf16⟩
  | .hbm, ⟨45, _⟩ => ⟨S1024x384, .f32⟩
  | .hbm, ⟨46, _⟩ => ⟨S1024x384, .f32⟩
  | .hbm, ⟨47, _⟩ => ⟨S1024x384, .f32⟩
  | .hbm, ⟨48, _⟩ => ⟨S1024x384, .f32⟩
  | .hbm, ⟨49, _⟩ => ⟨S1024x128, .f32⟩
  | .hbm, ⟨50, _⟩ => ⟨S1024x128, .f32⟩
  | .hbm, ⟨51, _⟩ => ⟨S1024x512, .f32⟩
  | .hbm, ⟨52, _⟩ => ⟨S1024x256, .f32⟩
  | .hbm, ⟨53, _⟩ => ⟨S1024x256, .f32⟩
  | .hbm, ⟨54, _⟩ => ⟨S1024x4, .f32⟩
  | .hbm, ⟨55, _⟩ => ⟨S1024x4, .f32⟩
  | .hbm, ⟨56, _⟩ => ⟨S1024x1024, .f32⟩
  | .hbm, ⟨57, _⟩ => ⟨S1024x1024, .bf16⟩
  | .hbm, ⟨58, _⟩ => ⟨S1024x1800, .f32⟩
  | .hbm, ⟨59, _⟩ => ⟨S1800x1024, .f32⟩
  | .hbm, ⟨60, _⟩ => ⟨S1800x1024, .bf16⟩
  | .hbm, ⟨61, _⟩ => ⟨S1x64, .f32⟩
  | .hbm, ⟨62, _⟩ => ⟨S6x64, .f32⟩
  | .hbm, ⟨63, _⟩ => ⟨S384, .f32⟩
  | .hbm, ⟨64, _⟩ => ⟨S1x64, .f32⟩
  | .hbm, ⟨65, _⟩ => ⟨S2x64, .f32⟩
  | .hbm, ⟨66, _⟩ => ⟨S128, .f32⟩
  | .hbm, ⟨67, _⟩ => ⟨S512, .f32⟩
  | .hbm, ⟨68, _⟩ => ⟨S1x512, .f32⟩
  | .hbm, ⟨69, _⟩ => ⟨S128, .f32⟩
  | .hbm, ⟨70, _⟩ => ⟨S128x1, .f32⟩
  | .hbm, ⟨71, _⟩ => ⟨S128x128, .f32⟩
  | .hbm, ⟨72, _⟩ => ⟨S8, .f32⟩
  | .hbm, ⟨73, _⟩ => ⟨S8x1, .f32⟩
  | .hbm, ⟨74, _⟩ => ⟨S8x128, .f32⟩
  | .hbm, ⟨75, _⟩ => ⟨S32768x1024, .f32⟩
  | .hbm, ⟨76, _⟩ => ⟨S1x1024, .f32⟩
  | .hbm, ⟨77, _⟩ => ⟨S32x16384, .f32⟩
  | .hbm, ⟨78, _⟩ => ⟨S32x16384, .f32⟩
  | .hbm, ⟨79, _⟩ => ⟨S32768x384, .bf16⟩
  | .hbm, ⟨80, _⟩ => ⟨S32x4x384, .f32⟩
  | .hbm, ⟨81, _⟩ => ⟨S32768x128, .bf16⟩
  | .hbm, ⟨82, _⟩ => ⟨S32768x512, .bf16⟩
  | .hbm, ⟨83, _⟩ => ⟨S384x32768, .bf16⟩
  | .hbm, ⟨84, _⟩ => ⟨S384x32768, .bf16⟩
  | .hbm, ⟨85, _⟩ => ⟨S128x480x256, .bf16⟩
  | .hbm, ⟨86, _⟩ => ⟨S128x32768, .bf16⟩
  | .hbm, ⟨87, _⟩ => ⟨S256x32768, .bf16⟩
  | .hbm, ⟨88, _⟩ => ⟨S256x32768, .bf16⟩
  | .hbm, ⟨89, _⟩ => ⟨S8x32768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1800x1024, .bf16⟩
  | .local _ .vmem, ⟨5, _⟩ => ⟨S256x256, .bf16⟩
  | .local _ .vmem, ⟨6, _⟩ => ⟨S1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S128x128, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S8x128, .f32⟩
  | .local _ .vmem, ⟨17, _⟩ => ⟨S1024x384, .bf16⟩
  | .local _ .vmem, ⟨18, _⟩ => ⟨S1024x384, .bf16⟩
  | .local _ .vmem, ⟨19, _⟩ => ⟨S1x4x384, .f32⟩
  | .local _ .vmem, ⟨20, _⟩ => ⟨S1x4x384, .f32⟩
  | .local _ .vmem, ⟨21, _⟩ => ⟨S1024x128, .bf16⟩
  | .local _ .vmem, ⟨22, _⟩ => ⟨S1024x128, .bf16⟩
  | .local _ .vmem, ⟨23, _⟩ => ⟨S1024x512, .bf16⟩
  | .local _ .vmem, ⟨24, _⟩ => ⟨S1024x512, .bf16⟩
  | .local _ .vmem, ⟨25, _⟩ => ⟨S384x1024, .bf16⟩
  | .local _ .vmem, ⟨26, _⟩ => ⟨S384x1024, .bf16⟩
  | .local _ .vmem, ⟨27, _⟩ => ⟨S384x1024, .bf16⟩
  | .local _ .vmem, ⟨28, _⟩ => ⟨S384x1024, .bf16⟩
  | .local _ .vmem, ⟨29, _⟩ => ⟨S4x480x256, .bf16⟩
  | .local _ .vmem, ⟨30, _⟩ => ⟨S4x480x256, .bf16⟩
  | .local _ .vmem, ⟨31, _⟩ => ⟨S128x1024, .bf16⟩
  | .local _ .vmem, ⟨32, _⟩ => ⟨S128x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S8x1024, .f32⟩
  | .local _ .vmem, ⟨38, _⟩ => ⟨S8x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev main_v47_2 : Ref sig .tc := ⟨.hbm, 81, rfl⟩
abbrev main_v47_3 : Ref sig .tc := ⟨.hbm, 82, rfl⟩
abbrev main_v47_4 : Ref sig .tc := ⟨.hbm, 83, rfl⟩
abbrev main_v47_5 : Ref sig .tc := ⟨.hbm, 84, rfl⟩
abbrev main_v47_6 : Ref sig .tc := ⟨.hbm, 85, rfl⟩
abbrev main_v47_7 : Ref sig .tc := ⟨.hbm, 86, rfl⟩
abbrev main_v47_8 : Ref sig .tc := ⟨.hbm, 87, rfl⟩
abbrev main_v47_9 : Ref sig .tc := ⟨.hbm, 88, rfl⟩
abbrev main_v47_10 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x480x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InProjRefIdeal.lean ====
abbrev S2x16384x1024 : Shape := ⟨3, ![2, 16384, 1024]⟩
abbrev S1024 : Shape := ⟨1, ![1024]⟩
abbrev S1024x2824 : Shape := ⟨2, ![1024, 2824]⟩
abbrev S4 : Shape := ⟨1, ![4]⟩
abbrev S64 : Shape := ⟨1, ![64]⟩
abbrev S16384x32 : Shape := ⟨2, ![16384, 32]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2824 : Shape := ⟨3, ![2, 16384, 2824]⟩
abbrev S2x16384x384 : Shape := ⟨3, ![2, 16384, 384]⟩
abbrev S2x16384x128 : Shape := ⟨3, ![2, 16384, 128]⟩
abbrev S2x16384x512 : Shape := ⟨3, ![2, 16384, 512]⟩
abbrev S2x16384x256 : Shape := ⟨3, ![2, 16384, 256]⟩
abbrev S2x16384x4 : Shape := ⟨3, ![2, 16384, 4]⟩
abbrev S2x16384x6x64 : Shape := ⟨4, ![2, 16384, 6, 64]⟩
abbrev S2x16384x6 : Shape := ⟨3, ![2, 16384, 6]⟩
abbrev S2x16384x6x1 : Shape := ⟨4, ![2, 16384, 6, 1]⟩
abbrev S1x1x1x64 : Shape := ⟨4, ![1, 1, 1, 64]⟩
abbrev S16384x1x32 : Shape := ⟨3, ![16384, 1, 32]⟩
abbrev S2x16384x6x32 : Shape := ⟨4, ![2, 16384, 6, 32]⟩
abbrev S1x16384x1x32 : Shape := ⟨4, ![1, 16384, 1, 32]⟩
abbrev S2x16384x2x64 : Shape := ⟨4, ![2, 16384, 2, 64]⟩
abbrev S2x16384x2 : Shape := ⟨3, ![2, 16384, 2]⟩
abbrev S2x16384x2x1 : Shape := ⟨4, ![2, 16384, 2, 1]⟩
abbrev S2x16384x2x32 : Shape := ⟨4, ![2, 16384, 2, 32]⟩
abbrev S32x4x256x384 : Shape := ⟨4, ![32, 4, 256, 384]⟩
abbrev S32x4x384 : Shape := ⟨3, ![32, 4, 384]⟩
abbrev S128x256x6x64 : Shape := ⟨4, ![128, 256, 6, 64]⟩
abbrev S128x6x64x256 : Shape := ⟨4, ![128, 6, 64, 256]⟩
abbrev S128x6x16x256 : Shape := ⟨4, ![128, 6, 16, 256]⟩
abbrev S128x6x80x256 : Shape := ⟨4, ![128, 6, 80, 256]⟩
abbrev S1x1x4 : Shape := ⟨3, ![1, 1, 4]⟩
abbrev S2x16384x8 : Shape := ⟨3, ![2, 16384, 8]⟩
abbrev S32768x384 : Shape := ⟨2, ![32768, 384]⟩
abbrev S32768x128 : Shape := ⟨2, ![32768, 128]⟩
abbrev S32768x512 : Shape := ⟨2, ![32768, 512]⟩
abbrev S384x32768 : Shape := ⟨2, ![384, 32768]⟩
abbrev S128x480x256 : Shape := ⟨3, ![128, 480, 256]⟩
abbrev S128x32768 : Shape := ⟨2, ![128, 32768]⟩
abbrev S32768x256 : Shape := ⟨2, ![32768, 256]⟩
abbrev S256x32768 : Shape := ⟨2, ![256, 32768]⟩
abbrev S32768x8 : Shape := ⟨2, ![32768, 8]⟩
abbrev S8x32768 : Shape := ⟨2, ![8, 32768]⟩

abbrev nBuf : Space → Nat
  | .hbm => 227
  | .vmem => 0
  | .smem => 0
  | _ => 0

abbrev hbmTy0_0 (i : Nat) : BufTy := match i % 128 with
  | 0 => ⟨S2x16384x1024, .f32⟩
  | 1 => ⟨S1024, .f32⟩
  | 2 => ⟨S1024x2824, .f32⟩
  | 3 => ⟨S4, .f32⟩
  | 4 => ⟨S4, .f32⟩
  | 5 => ⟨S64, .f32⟩
  | 6 => ⟨S64, .f32⟩
  | 7 => ⟨S64, .f32⟩
  | 8 => ⟨S64, .f32⟩
  | 9 => ⟨S16384x32, .f32⟩
  | 10 => ⟨S16384x32, .f32⟩
  | 11 => ⟨S2x16384x1024, .f32⟩
  | 12 => ⟨S_, .f32⟩
  | 13 => ⟨S2x16384, .f32⟩
  | 14 => ⟨S2x16384x1, .f32⟩
  | 15 => ⟨S_, .f32⟩
  | 16 => ⟨S2x16384x1, .f32⟩
  | 17 => ⟨S2x16384x1, .f32⟩
  | 18 => ⟨S_, .f32⟩
  | 19 => ⟨S2x16384x1, .f32⟩
  | 20 => ⟨S2x16384x1, .f32⟩
  | 21 => ⟨S2x16384x1, .f32⟩
  | 22 => ⟨S2x16384x1024, .f32⟩
  | 23 => ⟨S2x16384x1024, .f32⟩
  | 24 => ⟨S1x1x1024, .f32⟩
  | 25 => ⟨S2x16384x1024, .f32⟩
  | 26 => ⟨S2x16384x1024, .f32⟩
  | 27 => ⟨S2x16384x2824, .f32⟩
  | 28 => ⟨S2x16384x384, .f32⟩
  | 29 => ⟨S2x16384x384, .f32⟩
  | 30 => ⟨S2x16384x384, .f32⟩
  | 31 => ⟨S2x16384x384, .f32⟩
  | 32 => ⟨S2x16384x128, .f32⟩
  | 33 => ⟨S2x16384x128, .f32⟩
  | 34 => ⟨S2x16384x512, .f32⟩
  | 35 => ⟨S2x16384x256, .f32⟩
  | 36 => ⟨S2x16384x256, .f32⟩
  | 37 => ⟨S2x16384x4, .f32⟩
  | 38 => ⟨S2x16384x4, .f32⟩
  | 39 => ⟨S2x16384x6x64, .f32⟩
  | 40 => ⟨S2x16384x6x64, .f32⟩
  | 41 => ⟨S_, .f32⟩
  | 42 => ⟨S2x16384x6, .f32⟩
  | 43 => ⟨S2x16384x6x1, .f32⟩
  | 44 => ⟨S_, .f32⟩
  | 45 => ⟨S2x16384x6x1, .f32⟩
  | 46 => ⟨S2x16384x6x1, .f32⟩
  | 47 => ⟨S_, .f32⟩
  | 48 => ⟨S2x16384x6x1, .f32⟩
  | 49 => ⟨S2x16384x6x1, .f32⟩
  | 50 => ⟨S2x16384x6x1, .f32⟩
  | 51 => ⟨S2x16384x6x64, .f32⟩
  | 52 => ⟨S2x16384x6x64, .f32⟩
  | 53 => ⟨S1x1x1x64, .f32⟩
  | 54 => ⟨S2x16384x6x64, .f32⟩
  | 55 => ⟨S2x16384x6x64, .f32⟩
  | 56 => ⟨S16384x1x32, .f32⟩
  | 57 => ⟨S16384x1x32, .f32⟩
  | 58 => ⟨S2x16384x6x32, .f32⟩
  | 59 => ⟨S2x16384x6x32, .f32⟩
  | 60 => ⟨S1x16384x1x32, .f32⟩
  | 61 => ⟨S2x16384x6x32, .f32⟩
  | 62 => ⟨S2x16384x6x32, .f32⟩
  | 63 => ⟨S1x16384x1x32, .f32⟩
  | 64 => ⟨S2x16384x6x32, .f32⟩
  | 65 => ⟨S2x16384x6x32, .f32⟩
  | 66 => ⟨S2x16384x6x32, .f32⟩
  | 67 => ⟨S1x16384x1x32, .f32⟩
  | 68 => ⟨S2x16384x6x32, .f32⟩
  | 69 => ⟨S2x16384x6x32, .f32⟩
  | 70 => ⟨S1x16384x1x32, .f32⟩
  | 71 => ⟨S2x16384x6x32, .f32⟩
  | 72 => ⟨S2x16384x6x32, .f32⟩
  | 73 => ⟨S2x16384x6x32, .f32⟩
  | 74 => ⟨S2x16384x6x64, .f32⟩
  | 75 => ⟨S2x16384x6x64, .f32⟩
  | 76 => ⟨S2x16384x6x64, .f32⟩
  | 77 => ⟨S_, .f32⟩
  | 78 => ⟨S2x16384x6, .f32⟩
  | 79 => ⟨S2x16384x6x1, .f32⟩
  | 80 => ⟨S_, .f32⟩
  | 81 => ⟨S2x16384x6x1, .f32⟩
  | 82 => ⟨S2x16384x6x1, .f32⟩
  | 83 => ⟨S_, .f32⟩
  | 84 => ⟨S2x16384x6x1, .f32⟩
  | 85 => ⟨S2x16384x6x1, .f32⟩
  | 86 => ⟨S2x16384x6x1, .f32⟩
  | 87 => ⟨S2x16384x6x64, .f32⟩
  | 88 => ⟨S2x16384x6x64, .f32⟩
  | 89 => ⟨S1x1x1x64, .f32⟩
  | 90 => ⟨S2x16384x6x64, .f32⟩
  | 91 => ⟨S2x16384x6x64, .f32⟩
  | 92 => ⟨S16384x1x32, .f32⟩
  | 93 => ⟨S16384x1x32, .f32⟩
  | 94 => ⟨S2x16384x6x32, .f32⟩
  | 95 => ⟨S2x16384x6x32, .f32⟩
  | 96 => ⟨S1x16384x1x32, .f32⟩
  | 97 => ⟨S2x16384x6x32, .f32⟩
  | 98 => ⟨S2x16384x6x32, .f32⟩
  | 99 => ⟨S1x16384x1x32, .f32⟩
  | 100 => ⟨S2x16384x6x32, .f32⟩
  | 101 => ⟨S2x16384x6x32, .f32⟩
  | 102 => ⟨S2x16384x6x32, .f32⟩
  | 103 => ⟨S1x16384x1x32, .f32⟩
  | 104 => ⟨S2x16384x6x32, .f32⟩
  | 105 => ⟨S2x16384x6x32, .f32⟩
  | 106 => ⟨S1x16384x1x32, .f32⟩
  | 107 => ⟨S2x16384x6x32, .f32⟩
  | 108 => ⟨S2x16384x6x32, .f32⟩
  | 109 => ⟨S2x16384x6x32, .f32⟩
  | 110 => ⟨S2x16384x6x64, .f32⟩
  | 111 => ⟨S2x16384x6x64, .f32⟩
  | 112 => ⟨S2x16384x6x64, .f32⟩
  | 113 => ⟨S_, .f32⟩
  | 114 => ⟨S2x16384x6, .f32⟩
  | 115 => ⟨S2x16384x6x1, .f32⟩
  | 116 => ⟨S_, .f32⟩
  | 117 => ⟨S2x16384x6x1, .f32⟩
  | 118 => ⟨S2x16384x6x1, .f32⟩
  | 119 => ⟨S_, .f32⟩
  | 120 => ⟨S2x16384x6x1, .f32⟩
  | 121 => ⟨S2x16384x6x1, .f32⟩
  | 122 => ⟨S2x16384x6x1, .f32⟩
  | 123 => ⟨S2x16384x6x64, .f32⟩
  | 124 => ⟨S2x16384x6x64, .f32⟩
  | 125 => ⟨S1x1x1x64, .f32⟩
  | 126 => ⟨S2x16384x6x64, .f32⟩
  | 127 => ⟨S2x16384x6x64, .f32⟩
  | _ => ⟨S2x16384x1024, .f32⟩

abbrev hbmTy0_1 (i : Nat) : BufTy := match i % 128 with
  | 0 => ⟨S16384x1x32, .f32⟩
  | 1 => ⟨S16384x1x32, .f32⟩
  | 2 => ⟨S2x16384x6x32, .f32⟩
  | 3 => ⟨S2x16384x6x32, .f32⟩
  | 4 => ⟨S1x16384x1x32, .f32⟩
  | 5 => ⟨S2x16384x6x32, .f32⟩
  | 6 => ⟨S2x16384x6x32, .f32⟩
  | 7 => ⟨S1x16384x1x32, .f32⟩
  | 8 => ⟨S2x16384x6x32, .f32⟩
  | 9 => ⟨S2x16384x6x32, .f32⟩
  | 10 => ⟨S2x16384x6x32, .f32⟩
  | 11 => ⟨S1x16384x1x32, .f32⟩
  | 12 => ⟨S2x16384x6x32, .f32⟩
  | 13 => ⟨S2x16384x6x32, .f32⟩
  | 14 => ⟨S1x16384x1x32, .f32⟩
  | 15 => ⟨S2x16384x6x32, .f32⟩
  | 16 => ⟨S2x16384x6x32, .f32⟩
  | 17 => ⟨S2x16384x6x32, .f32⟩
  | 18 => ⟨S2x16384x6x64, .f32⟩
  | 19 => ⟨S2x16384x2x64, .f32⟩
  | 20 => ⟨S2x16384x2x64, .f32⟩
  | 21 => ⟨S_, .f32⟩
  | 22 => ⟨S2x16384x2, .f32⟩
  | 23 => ⟨S2x16384x2x1, .f32⟩
  | 24 => ⟨S_, .f32⟩
  | 25 => ⟨S2x16384x2x1, .f32⟩
  | 26 => ⟨S2x16384x2x1, .f32⟩
  | 27 => ⟨S_, .f32⟩
  | 28 => ⟨S2x16384x2x1, .f32⟩
  | 29 => ⟨S2x16384x2x1, .f32⟩
  | 30 => ⟨S2x16384x2x1, .f32⟩
  | 31 => ⟨S2x16384x2x64, .f32⟩
  | 32 => ⟨S2x16384x2x64, .f32⟩
  | 33 => ⟨S1x1x1x64, .f32⟩
  | 34 => ⟨S2x16384x2x64, .f32⟩
  | 35 => ⟨S2x16384x2x64, .f32⟩
  | 36 => ⟨S16384x1x32, .f32⟩
  | 37 => ⟨S16384x1x32, .f32⟩
  | 38 => ⟨S2x16384x2x32, .f32⟩
  | 39 => ⟨S2x16384x2x32, .f32⟩
  | 40 => ⟨S1x16384x1x32, .f32⟩
  | 41 => ⟨S2x16384x2x32, .f32⟩
  | 42 => ⟨S2x16384x2x32, .f32⟩
  | 43 => ⟨S1x16384x1x32, .f32⟩
  | 44 => ⟨S2x16384x2x32, .f32⟩
  | 45 => ⟨S2x16384x2x32, .f32⟩
  | 46 => ⟨S2x16384x2x32, .f32⟩
  | 47 => ⟨S1x16384x1x32, .f32⟩
  | 48 => ⟨S2x16384x2x32, .f32⟩
  | 49 => ⟨S2x16384x2x32, .f32⟩
  | 50 => ⟨S1x16384x1x32, .f32⟩
  | 51 => ⟨S2x16384x2x32, .f32⟩
  | 52 => ⟨S2x16384x2x32, .f32⟩
  | 53 => ⟨S2x16384x2x32, .f32⟩
  | 54 => ⟨S2x16384x2x64, .f32⟩
  | 55 => ⟨S32x4x256x384, .f32⟩
  | 56 => ⟨S_, .f32⟩
  | 57 => ⟨S32x4x384, .f32⟩
  | 58 => ⟨S_, .f32⟩
  | 59 => ⟨S32x4x384, .f32⟩
  | 60 => ⟨S32x4x384, .f32⟩
  | 61 => ⟨S2x16384x6x64, .f32⟩
  | 62 => ⟨S128x256x6x64, .f32⟩
  | 63 => ⟨S128x6x64x256, .f32⟩
  | 64 => ⟨S_, .f32⟩
  | 65 => ⟨S128x6x16x256, .f32⟩
  | 66 => ⟨S128x6x80x256, .f32⟩
  | 67 => ⟨S1x1x4, .f32⟩
  | 68 => ⟨S2x16384x4, .f32⟩
  | 69 => ⟨S2x16384x4, .f32⟩
  | 70 => ⟨S1x1x4, .f32⟩
  | 71 => ⟨S2x16384x4, .f32⟩
  | 72 => ⟨S2x16384x4, .f32⟩
  | 73 => ⟨S2x16384x8, .f32⟩
  | 74 => ⟨S32768x384, .f32⟩
  | 75 => ⟨S32768x384, .bf16⟩
  | 76 => ⟨S32768x128, .f32⟩
  | 77 => ⟨S32768x128, .bf16⟩
  | 78 => ⟨S32768x512, .f32⟩
  | 79 => ⟨S32768x512, .bf16⟩
  | 80 => ⟨S32768x384, .f32⟩
  | 81 => ⟨S384x32768, .f32⟩
  | 82 => ⟨S384x32768, .bf16⟩
  | 83 => ⟨S32768x384, .f32⟩
  | 84 => ⟨S384x32768, .f32⟩
  | 85 => ⟨S384x32768, .bf16⟩
  | 86 => ⟨S128x480x256, .f32⟩
  | 87 => ⟨S128x480x256, .bf16⟩
  | 88 => ⟨S32768x128, .f32⟩
  | 89 => ⟨S128x32768, .f32⟩
  | 90 => ⟨S128x32768, .bf16⟩
  | 91 => ⟨S32768x256, .f32⟩
  | 92 => ⟨S256x32768, .f32⟩
  | 93 => ⟨S256x32768, .bf16⟩
  | 94 => ⟨S32768x256, .f32⟩
  | 95 => ⟨S256x32768, .f32⟩
  | 96 => ⟨S256x32768, .bf16⟩
  | 97 => ⟨S32768x8, .f32⟩
  | 98 => ⟨S8x32768, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_8 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_cst_10 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_11 : Ref sig .tc := ⟨.hbm, 149, rfl⟩
abbrev main_v126 : Ref sig .tc := ⟨.hbm, 150, rfl⟩
abbrev main_v127 : Ref sig .tc := ⟨.hbm, 151, rfl⟩
abbrev main_cst_12 : Ref sig .tc := ⟨.hbm, 152, rfl⟩
abbrev main_v128 : Ref sig .tc := ⟨.hbm, 153, rfl⟩
abbrev main_v129 : Ref sig .tc := ⟨.hbm, 154, rfl⟩
abbrev main_cst_13 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_14 : Ref sig .tc := ⟨.hbm, 184, rfl⟩
abbrev main_v158 : Ref sig .tc := ⟨.hbm, 185, rfl⟩
abbrev main_cst_15 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_16 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩

abbrev nD : Nat := 1
abbrev τ : Topo := Topo.v7x

variable {F : FTy → Type} [FloatOps F]
-- ==== Proof.OutVal.lean ====
/- The value of the output-projection-and-MLP kernel: after the run its result array is the reference's term of the
   arguments. The kernel keeps the residual stream in the output block and adds the hidden layer's contribution in four
   chunks of 1024 hidden units; the reference contracts all 4096 at once. -/
module

public import proofs.«01_k».proof.Proof.Gen.OutMlpIdeal.Value
public import proofs.«01_k».proof.Proof.Gen.OutMlpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.OutVal

open Cert.OutMlpIdeal Cert.OutMlpIdeal.Gen
open Idealize.ShloMosaic Idealize.ShloMosaic.TcCoe Idealize.SL.Sem
open Idealize.ShloMosaic.Pipeline (Dat)

/-- The reference's residual stream: the layer input plus the projected concatenation of the three mixers' outputs. -/
def resid (X : FVec Ideal S32768x1024 .f32) (Ym : FVec Ideal S32768x384 .bf16) (Yl : FVec Ideal S32768x256 .bf16)
    (Ys : FVec Ideal S32768x384 .bf16) (Wo : FVec Ideal S1024x1024 .f32) : FVec Ideal S32768x1024 .f32 :=
  addf X (Host.dotGeneral Cert.OutMlpRefIdeal.dot_S32768x1024_S1024x1024_S32768x1024_1_0_0_1_n_n none
    (concatenate Cert.OutMlpRefIdeal.S32768x1024 1
      [⟨Cert.OutMlpRefIdeal.S32768x384, (extf .f32 Ym Cert.OutMlpRefIdeal.Gen.bitsLt_bf16_f32 : FVec Ideal S32768x384 .f32)⟩,
       ⟨Cert.OutMlpRefIdeal.S32768x256, (extf .f32 Yl Cert.OutMlpRefIdeal.Gen.bitsLt_bf16_f32 : FVec Ideal S32768x256 .f32)⟩,
       ⟨Cert.OutMlpRefIdeal.S32768x384, (extf .f32 Ys Cert.OutMlpRefIdeal.Gen.bitsLt_bf16_f32 : FVec Ideal S32768x384 .f32)⟩]
      Cert.OutMlpRefIdeal.Gen.concatenates_S32768x384_S32768x256_S32768x384_S32768x1024_d1 : FVec Ideal S32768x1024 .f32) Wo)

/-- The reference's normalised stream: each row divided by its root mean square, times the gain. -/
def normed (R : FVec Ideal S32768x1024 .f32) (G : FVec Ideal S1024 .f32) : FVec Ideal S32768x1024 .f32 :=
  mulf (mulf R (broadcastInDim Cert.OutMlpRefIdeal.S32768x1024 ![0, 1] Cert.OutMlpRefIdeal.Gen.bcast_S32768x1_S32768x1024_0_1
      (Host.rsqrt (addf (Host.divf (broadcastInDim Cert.OutMlpRefIdeal.S32768x1 ![0] Cert.OutMlpRefIdeal.Gen.bcast_S32768_S32768x1_0
          (Host.reduceAdd (mulf R R) (constant Cert.OutMlpRefIdeal.S_ .f32 0x00000000#32)
            Cert.OutMlpRefIdeal.Gen.reducesTo_S32768x1024_S32768_d1 Cert.OutMlpRefIdeal.Gen.h_S_))
          (broadcastInDim Cert.OutMlpRefIdeal.S32768x1 ![] Cert.OutMlpRefIdeal.Gen.bcast_S_S32768x1 (constant Cert.OutMlpRefIdeal.S_ .f32 0x44800000#32)))
        (broadcastInDim Cert.OutMlpRefIdeal.S32768x1 ![] Cert.OutMlpRefIdeal.Gen.bcast_S_S32768x1 (constant Cert.OutMlpRefIdeal.S_ .f32 0x358637BD#32))))))
    (broadcastInDim Cert.OutMlpRefIdeal.S32768x1024 ![0, 1] Cert.OutMlpRefIdeal.Gen.bcast_S1x1024_S32768x1024_0_1
      (broadcastInDim Cert.OutMlpRefIdeal.S1x1024 ![1] Cert.OutMlpRefIdeal.Gen.bcast_S1024_S1x1024_1 G))

/-- The reference's result: the residual stream plus the two-layer perceptron of the normalised stream. -/
def mlp (R H : FVec Ideal S32768x1024 .f32) (Wu : FVec Ideal S1024x4096 .f32) (Wd : FVec Ideal S4096x1024 .f32) : FVec Ideal S32768x1024 .f32 :=
  addf R (Host.dotGeneral Cert.OutMlpRefIdeal.dot_S32768x4096_S4096x1024_S32768x1024_1_0_0_1_n_n none
    (mulf (maximumf (Host.dotGeneral Cert.OutMlpRefIdeal.dot_S32768x1024_S1024x4096_S32768x4096_1_0_0_1_n_n none H Wu)
        (broadcastInDim Cert.OutMlpRefIdeal.S32768x4096 ![] Cert.OutMlpRefIdeal.Gen.bcast_S_S32768x4096 (constant Cert.OutMlpRefIdeal.S_ .f32 0x00000000#32)))
      (maximumf (Host.dotGeneral Cert.OutMlpRefIdeal.dot_S32768x1024_S1024x4096_S32768x4096_1_0_0_1_n_n none H Wu)
        (broadcastInDim Cert.OutMlpRefIdeal.S32768x4096 ![] Cert.OutMlpRefIdeal.Gen.bcast_S_S32768x4096 (constant Cert.OutMlpRefIdeal.S_ .f32 0x00000000#32)))) Wd)

variable (m : (ℓ : Loc nD τ sig) → Buf (Elt Ideal) ℓ)

/-- The residual stream of device `c`'s arguments. -/
abbrev R (c : Dev nD) : FVec Ideal S32768x1024 .f32 :=
  resid (m ((c : Thread nD τ).loc main_arg0)) (m ((c : Thread nD τ).loc main_arg1)) (m ((c : Thread nD τ).loc main_arg2))
    (m ((c : Thread nD τ).loc main_arg3)) (m ((c : Thread nD τ).loc main_arg4))

/-- The normalised stream of device `c`'s arguments. -/
abbrev H (c : Dev nD) : FVec Ideal S32768x1024 .f32 := normed (R m c) (m ((c : Thread nD τ).loc main_arg5))

/-- The windows' block indices: the row blocks follow the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

theorem row_lt (t : Fin cfg0.N) (r : Fin 1024) : t.val * 1024 + r.val < 32768 := by
  have ht : t.val < 32 := lt_of_lt_of_eq t.isLt N_0
  have := r.isLt; omega

/-- The kernel's residual block is the reference's residual stream at the block's rows. -/
theorem resid_at (c : Dev nD) (t : Fin cfg0.N) (r n : Fin 1024) :
    k0_pay2 (F := Ideal) (iblk m c 1 t) (iblk m c 2 t) (iblk m c 3 t) (iblk m c 0 t) (iblk m c 4 t) (ix2 r n)
      = R m c (ix2 ⟨t.val * 1024 + r.val, row_lt t r⟩ n) := by
  pointwise [k0_pay2, R, resid]
  blk_point [iblk, V, idx t]

/-- The kernel's normalised block is the reference's normalised stream at the block's rows. -/
theorem normed_at (c : Dev nD) (t : Fin cfg0.N) (r n : Fin 1024) :
    k0_pay3 (F := Ideal) (iblk m c 1 t) (iblk m c 2 t) (iblk m c 3 t) (iblk m c 0 t) (iblk m c 4 t) (iblk m c 5 t) (ix2 r n)
      = H m c (ix2 ⟨t.val * 1024 + r.val, row_lt t r⟩ n) := by
  pointwise [k0_pay3, H, normed]
  simp only [resid_at]
  blk_point [iblk, V, idx t]

/-- One hidden chunk's contribution, over abstract blocks: the squared positive part of the chunk's hidden units, projected. -/
def chunk (h wu wd : FVec Ideal S1024x1024 .bf16) (r n : Fin 1024) : EReal :=
  ∑ f : Fin 1024, (max (∑ k : Fin 1024, h (ix2 r k) * wu (ix2 k f)) 0 * max (∑ k : Fin 1024, h (ix2 r k) * wu (ix2 k f)) 0) * wd (ix2 f n)

theorem pay1_at (h wu o wd) (r n : Fin 1024) : k0_pay1 (F := Ideal) h wu o wd (ix2 r n) = o (ix2 r n) + chunk h wu wd r n := by
  pointwise [k0_pay1, chunk]

theorem pay7_at (h wu o wd) (r n : Fin 1024) : k0_pay7 (F := Ideal) h wu o wd (ix2 r n) = o (ix2 r n) + chunk h wu wd r n := by
  pointwise [k0_pay7, chunk]

theorem pay8_at (h wu o wd) (r n : Fin 1024) : k0_pay8 (F := Ideal) h wu o wd (ix2 r n) = o (ix2 r n) + chunk h wu wd r n := by
  pointwise [k0_pay8, chunk]

theorem pay6_at (a b c d e g wu wd) (o : FVec Ideal S1024x1024 .f32) (r n : Fin 1024) :
    k0_pay6 (F := Ideal) (k0_pay4 a b c d e g wu) (k0_pay5 o) wd (ix2 r n) = o (ix2 r n) + chunk (k0_pay3 a b c d e g) wu wd r n := by
  pointwise [k0_pay6, k0_pay4, k0_pay5, chunk]

/-- The reference's result at an index: the residual plus the contraction over all 4096 hidden units. -/
theorem mlp_at (Rr Hh : FVec Ideal S32768x1024 .f32) (Wu : FVec Ideal S1024x4096 .f32) (Wd : FVec Ideal S4096x1024 .f32) (i : Fin 32768) (n : Fin 1024) :
    mlp Rr Hh Wu Wd (ix2 i n) = Rr (ix2 i n) + ∑ f : Fin 4096, (max (∑ k : Fin 1024, Hh (ix2 i k) * Wu (ix2 k f)) 0
      * max (∑ k : Fin 1024, Hh (ix2 i k) * Wu (ix2 k f)) 0) * Wd (ix2 f n) := by
  pointwise [mlp]

/-- The summand of the reference's contraction over the hidden units. -/
def unit (c : Dev nD) (i : Fin 32768) (n : Fin 1024) (f : Fin 4096) : EReal :=
  (max (∑ k : Fin 1024, H m c (ix2 i k) * (m ((c : Thread nD τ).loc main_arg6) : FVec Ideal S1024x4096 .f32) (ix2 k f)) 0
    * max (∑ k : Fin 1024, H m c (ix2 i k) * (m ((c : Thread nD τ).loc main_arg6) : FVec Ideal S1024x4096 .f32) (ix2 k f)) 0)
    * (m ((c : Thread nD τ).loc main_arg7) : FVec Ideal S4096x1024 .f32) (ix2 f n)

/-- A chunk whose weight blocks are the weights' columns and rows from `1024 b` on is those units' part of the contraction. -/
theorem chunk_at (c : Dev nD) (t : Fin cfg0.N) (b : Fin 4) (wu wd : FVec Ideal S1024x1024 .bf16)
    (hu : ∀ k f : Fin 1024, wu (ix2 k f) = (m ((c : Thread nD τ).loc main_arg6) : FVec Ideal S1024x4096 .f32) (ix2 k ⟨b.val * 1024 + f.val, by omega⟩))
    (hd : ∀ f n : Fin 1024, wd (ix2 f n) = (m ((c : Thread nD τ).loc main_arg7) : FVec Ideal S4096x1024 .f32) (ix2 ⟨b.val * 1024 + f.val, by omega⟩ n))
    (r n : Fin 1024) :
    chunk (k0_pay3 (F := Ideal) (iblk m c 1 t) (iblk m c 2 t) (iblk m c 3 t) (iblk m c 0 t) (iblk m c 4 t) (iblk m c 5 t)) wu wd r n
      = ∑ f : Fin 1024, unit m c ⟨t.val * 1024 + r.val, row_lt t r⟩ n ⟨b.val * 1024 + f.val, by omega⟩ := by
  unfold chunk unit
  simp only [normed_at, hu, hd]

/-- What the body leaves in the output block is the reference's result at the block's rows. -/
theorem block_at (c : Dev nD) (t : Fin cfg0.N) (r n : Fin 1024) :
    outsAt0 m c t (ix2 r n) = mlp (R m c) (H m c) (m ((c : Thread nD τ).loc main_arg6)) (m ((c : Thread nD τ).loc main_arg7))
      (ix2 ⟨t.val * 1024 + r.val, row_lt t r⟩ n) := by
  unfold outsAt0
  frame_out
  rw [pay1_at, pay8_at, pay7_at, pay6_at, mlp_at, resid_at,
    chunk_at m c t 0 _ _ (fun k f => ?_) (fun f n => ?_), chunk_at m c t 1 _ _ (fun k f => ?_) (fun f n => ?_),
    chunk_at m c t 2 _ _ (fun k f => ?_) (fun f n => ?_), chunk_at m c t 3 _ _ (fun k f => ?_) (fun f n => ?_)]
  · rw [add_assoc, add_assoc, add_assoc]
    refine congrArg _ ?_
    exact (((Fin.sum_univ_tiles 4 1024 rfl (unit m c ⟨t.val * 1024 + r.val, row_lt t r⟩ n)).trans (Fin.sum_univ_four _)).trans
      (by rw [add_assoc, add_assoc])).symm
  all_goals blk_point [iblk, V, idx t]

theorem final (c : Dev nD) : (dats m 0 c).arrAt 8 (cfgs 0).N
    = mlp (R m c) (H m c) (m ((c : Thread nD τ).loc main_arg6)) (m ((c : Thread nD τ).loc main_arg7)) := by
  refine (dats m 0 c).arrAt_eq_of_covers 8 _ (by decide +kernel) fun t _ y => ?_
  blk_simp
  rw [after0_8]
  obtain ⟨r, n, rfl⟩ : ∃ (r n : Fin 1024), y = ix2 r n := ⟨y 0, y 1, by blk_ext⟩
  refine (block_at m c t r n).trans (congrArg _ ?_)
  blk_ext [idx t]

/-- The reference's composed term is the three named pieces put together. -/
theorem ref_eq (m' : (ℓ : Loc Cert.OutMlpRefIdeal.nD Cert.OutMlpRefIdeal.τ Cert.OutMlpRefIdeal.sig) → Buf (Elt Ideal) ℓ) (c : Dev Cert.OutMlpRefIdeal.nD) :
    Cert.OutMlpRefIdeal.Value.res_out0 m' c
      = mlp (resid (m' ((c.tc : Thread _ _).loc Cert.OutMlpRefIdeal.main_arg0)) (m' ((c.tc : Thread _ _).loc Cert.OutMlpRefIdeal.main_arg1))
            (m' ((c.tc : Thread _ _).loc Cert.OutMlpRefIdeal.main_arg2)) (m' ((c.tc : Thread _ _).loc Cert.OutMlpRefIdeal.main_arg3))
            (m' ((c.tc : Thread _ _).loc Cert.OutMlpRefIdeal.main_arg4)))
          (normed (resid (m' ((c.tc : Thread _ _).loc Cert.OutMlpRefIdeal.main_arg0)) (m' ((c.tc : Thread _ _).loc Cert.OutMlpRefIdeal.main_arg1))
            (m' ((c.tc : Thread _ _).loc Cert.OutMlpRefIdeal.main_arg2)) (m' ((c.tc : Thread _ _).loc Cert.OutMlpRefIdeal.main_arg3))
            (m' ((c.tc : Thread _ _).loc Cert.OutMlpRefIdeal.main_arg4))) (m' ((c.tc : Thread _ _).loc Cert.OutMlpRefIdeal.main_arg5)))
          (m' ((c.tc : Thread _ _).loc Cert.OutMlpRefIdeal.main_arg6)) (m' ((c.tc : Thread _ _).loc Cert.OutMlpRefIdeal.main_arg7)) := by
  unfold Cert.OutMlpRefIdeal.Value.res_out0 Cert.OutMlpRefIdeal.Value.res_main_v23 mlp normed resid
  rfl

end Cert.OutVal

end
-- ==== Proof.SwaRun.lean ====
/- The attention kernel's body run once, on whole staging buffers. Its two guarded halves test the same flag word
   for "not zero" and for "zero", so exactly one of them runs: `run_plain` is the half without the row maximum,
   `run_shifted` the half with it. Each names the pieces the body's stores leave in the output block. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The flag word tested for "not zero", as the body spells it. -/
abbrev flagSet (w : BitVec 32) : Prop := (Scalar.cmpi .ne (Scalar.extui (Scalar.cmpi .ne w 0#32)) 0#32) = 1#1

/-- The flag word tested for "zero", as the body spells it. -/
abbrev flagClear (w : BitVec 32) : Prop := (Scalar.cmpi .ne (Scalar.extui (Scalar.cmpi .eq w 0#32)) 0#32) = 1#1

/-- The flag word the body reads off its first argument block. -/
abbrev flagOf (arg2 : Memref sig .tc .smem S1 .i32) (harg2 : arg2.IsWhole) (x0 : Vec F S1 .i32) : BitVec 32 :=
  arg2.view.readAt (Elt F) (Rect.unit (s := S1) ![0] S1.size inb_S1_S1_0).toLoadRect (harg2.unread x0) (Shape.Idx.first (numel1_S1.symm ▸ Nat.one_pos))

set_option maxHeartbeats 4000000 in
/-- The body where the flag is set: only the half without the row maximum runs. -/
noncomputable def runPlain (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole)
    (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16)
    (h0 : flagSet (flagOf arg2 harg2 x0)) (h1 : ¬ flagClear (flagOf arg2 harg2 x0)) :
    { L7 : List (View.Piece (Elt F) S1024x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_swa i arg2 harg2 arg3 harg3 arg4 harg4 arg5 harg5 arg6 harg6 arg7 harg7 arg8 harg8 arg9 harg9 arg10 harg10) K } := by
  refine ⟨?_, fun E K => ?run⟩
  case run =>
    simp only [cc0_swa_eq_skeleton]; unfold cc0_swa_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _, _; isplitr; swap; · iexact HS0
    ipureintro; rfl

end Cert.Swa

end
-- ==== Proof.SwaRunB.lean ====
/- The attention kernel's body run once, on whole staging buffers. Its two guarded halves test the same flag word
   for "not zero" and for "zero", so exactly one of them runs: `run_plain` is the half without the row maximum,
   `run_shifted` the half with it. Each names the pieces the body's stores leave in the output block. -/
module

public import proofs.«01_k».proof.Proof.SwaRun
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the flag is zero: only the half with the row maximum runs. -/
noncomputable def runShifted (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole)
    (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16)
    (h0 : ¬ flagSet (flagOf arg2 harg2 x0)) (h1 : flagClear (flagOf arg2 harg2 x0)) :
    { L7 : List (View.Piece (Elt F) S1024x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_swa i arg2 harg2 arg3 harg3 arg4 harg4 arg5 harg5 arg6 harg6 arg7 harg7 arg8 harg8 arg9 harg9 arg10 harg10) K } := by
  refine ⟨?_, fun E K => ?run⟩
  case run =>
    simp only [cc0_swa_eq_skeleton]; unfold cc0_swa_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _, _; isplitr; swap; · iexact HS0
    ipureintro; rfl

end Cert.Swa

end
-- ==== Proof.SwaFrame.lean ====
/- The attention kernel's pipeline: what the body leaves in the output block at every grid point (`outsAt0`), the
   pipeline's proof data, the body's obligation and the run of the whole call (`run_main`), and from it the frame. -/
module

public import proofs.«01_k».proof.Proof.SwaRun
public import proofs.«01_k».proof.Proof.SwaRunB
public import Idealize.ShloMosaic.Lib.Claim
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two tests of one flag word exclude each other, and one of them holds. -/
theorem flagClear_of_not (w : BitVec 32) (h : ¬ flagSet w) : flagClear w := by
  by_cases hw : w = 0#32
  · subst hw; decide
  · exact absurd (by simp only [flagSet, Scalar.cmpi, WordCmp.cmpi_ne_eq w, ne_eq, hw, not_false_eq_true, decide_true]; decide) h

theorem not_flagClear_of (w : BitVec 32) (h : flagSet w) : ¬ flagClear w := by
  by_cases hw : w = 0#32
  · subst hw; exact absurd h (by decide)
  · simp only [flagClear, Scalar.cmpi, WordCmp.cmpi_eq_eq w, hw, decide_false]; decide

abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x384 .bf16 := win0_7.stage (cfg0.slots t 7)
abbrev hs0_7 (t : Fin cfg0.N) : (ms0_7 t).IsWhole := hstage0_7 ((cfg0.slots t 7).cast nbuf0_7)
/-- The kernel's scratch buffer, whole. -/
abbrev scM0_0 : Memref sig .tc .vmem S16x256x384 .bf16 := Memref.whole cc0_scratch0

/-- The pipeline's invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The view the output block is read through. -/
abbrev VO : View sig .tc .vmem S1024x384 .bf16 := (Memref.whole cc0_stg7_0 : Memref sig .tc .vmem S1024x384 .bf16).view

/-- The stores of the body with the flag set tile the output block. -/
theorem coverPlain (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole) (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16) (h0 : flagSet (flagOf arg2 harg2 x0)) (h1 : ¬ flagClear (flagOf arg2 harg2 x0)) (y : S1024x384.Idx) :
    ∃ pc ∈ (runPlain c i arg2 harg2 arg3 harg3 arg4 harg4 arg5 harg5 arg6 harg6 arg7 harg7 arg8 harg8 arg9 harg9 arg10 harg10 x0 x1 x2 x3 x4 x5 x6 h0 h1).1, y ∈ pc.1.set :=
  View.cover_of_tiledL (runPlain c i arg2 harg2 arg3 harg3 arg4 harg4 arg5 harg5 arg6 harg6 arg7 harg7 arg8 harg8 arg9 harg9 arg10 harg10 x0 x1 x2 x3 x4 x5 x6 h0 h1).1 S128x384.size (by sl_kernel_rfl) y

/-- What the body with the flag set leaves in the output block. -/
def outPlain (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole) (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16) (h0 : flagSet (flagOf arg2 harg2 x0)) (h1 : ¬ flagClear (flagOf arg2 harg2 x0)) : Vec F S1024x384 .bf16 :=
  VO.read (Elt F) (VO.writes (Elt F) VO.junk (runPlain c i arg2 harg2 arg3 harg3 arg4 harg4 arg5 harg5 arg6 harg6 arg7 harg7 arg8 harg8 arg9 harg9 arg10 harg10 x0 x1 x2 x3 x4 x5 x6 h0 h1).1)

/-- The stores of the body with the flag zero tile the output block. -/
theorem coverShifted (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole) (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16) (h0 : ¬ flagSet (flagOf arg2 harg2 x0)) (h1 : flagClear (flagOf arg2 harg2 x0)) (y : S1024x384.Idx) :
    ∃ pc ∈ (runShifted c i arg2 harg2 arg3 harg3 arg4 harg4 arg5 harg5 arg6 harg6 arg7 harg7 arg8 harg8 arg9 harg9 arg10 harg10 x0 x1 x2 x3 x4 x5 x6 h0 h1).1, y ∈ pc.1.set :=
  View.cover_of_tiledL (runShifted c i arg2 harg2 arg3 harg3 arg4 harg4 arg5 harg5 arg6 harg6 arg7 harg7 arg8 harg8 arg9 harg9 arg10 harg10 x0 x1 x2 x3 x4 x5 x6 h0 h1).1 S128x384.size (by sl_kernel_rfl) y

/-- What the body with the flag zero leaves in the output block. -/
def outShifted (c : Dev nD) (i : grid0.Coords) (arg2 : Memref sig .tc .smem S1 .i32) (harg2 : arg2.IsWhole) (arg3 : Memref sig .tc .smem S6 .f32) (harg3 : arg3.IsWhole) (arg4 : Memref sig .tc .vmem S384x1024 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .bf16) (harg8 : arg8.IsWhole) (arg9 : Memref sig .tc .vmem S1024x384 .bf16) (harg9 : arg9.IsWhole) (arg10 : Memref sig .tc .vmem S16x256x384 .bf16) (harg10 : arg10.IsWhole) (x0 : Vec F S1 .i32) (x1 : Vec F S6 .f32) (x2 : Vec F S384x1024 .bf16) (x3 : Vec F S1024x128 .bf16) (x4 : Vec F S128x128 .bf16) (x5 : Vec F S128x1024 .bf16) (x6 : Vec F S128x128 .bf16) (h0 : ¬ flagSet (flagOf arg2 harg2 x0)) (h1 : flagClear (flagOf arg2 harg2 x0)) : Vec F S1024x384 .bf16 :=
  VO.read (Elt F) (VO.writes (Elt F) VO.junk (runShifted c i arg2 harg2 arg3 harg3 arg4 harg4 arg5 harg5 arg6 harg6 arg7 harg7 arg8 harg8 arg9 harg9 arg10 harg10 x0 x1 x2 x3 x4 x5 x6 h0 h1).1)

/-- The flag word the body reads at point `t`. -/
abbrev flagAt (c : Dev nD) (t : Fin cfg0.N) : BitVec 32 := flagOf (F := F) (ms0_0 t) (hs0_0 t) (iblk m c 0 t)

open Classical in
/-- What the output block holds after the body at point `t`. -/
def outsAt0 (c : Dev nD) (t : Fin cfg0.N) : Vec F S1024x384 .bf16 :=
  if h : flagSet (flagAt m c t) then
    outPlain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) h (not_flagClear_of _ h)
  else
    outShifted c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) h (flagClear_of_not _ h)

/-- The proof data of the pipeline: each input's buffer at its block, the output's at `outsAt0`; two pairs of windows
    read one array each, so they hold their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
/-- The body at any point: whichever way the flag word goes, the run of that half applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  by_cases h : flagSet (flagAt m c t)
  · rw [show outsAt0 m c t = _ from dif_pos h]
    unfold outPlain
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runPlain c (grid0.coords t) _ _ _ _ _ _ _ _ _ _ _ _ _ _ _ _ _ _ (iblk m c 0 t) (iblk m c 1 t) (iblk m c 2 t) (iblk m c 3 t) (iblk m c 4 t) (iblk m c 5 t) (iblk m c 6 t) h (not_flagClear_of _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverPlain c _ _ _ _ _ _ _ _ _ _ _ _ _ _ _ _ _ _ _ _ _ _ _ _ _ _ _ _)
  · rw [show outsAt0 m c t = _ from dif_neg h]
    unfold outShifted
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runShifted c (grid0.coords t) _ _ _ _ _ _ _ _ _ _ _ _ _ _ _ _ _ _ (iblk m c 0 t) (iblk m c 1 t) (iblk m c 2 t) (iblk m c 3 t) (iblk m c 4 t) (iblk m c 5 t) (iblk m c 6 t) h (flagClear_of_not _ h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverShifted c _ _ _ _ _ _ _ _ _ _ _ _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends as the pipeline's data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Swa

end
-- ==== Proof.SwaVec.lean ====
/- The sliding-window kernel's output block in the kernel's own vector operations, one 128-row tile at a time: what the
   sixteen stores of probabilities and the eight stores of outputs leave, whichever of the two branches ran. -/
module

public import proofs.«01_k».proof.Proof.SwaFrame
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

namespace Cert.Swa

open Cert.KernelIdeal Cert.KernelIdeal.Gen
open Idealize.ShloMosaic Idealize.ShloMosaic.TcCoe

/-- The base-two logarithm of e, as the kernel's constant. -/
abbrev log2e : Ideal .f32 := Named.named κ "log2e" 0x3FB8AA3B#32

/-- Three heads' columns of queries side by side. -/
def heads (a b c : Vec Ideal S64x128 .bf16) : FVec Ideal S64x384 .bf16 :=
  concatenate S64x384 1 [⟨S64x128, shapeCast S64x128 a shapeCasts_S64x128_S64x128⟩, ⟨S64x128, shapeCast S64x128 b shapeCasts_S64x128_S64x128⟩,
    ⟨S64x128, shapeCast S64x128 c shapeCasts_S64x128_S64x128⟩] concatenates_S64x128_S64x128_S64x128_S64x384_d1

/-- The first key head's queries: the other key head's features are met with zeros. -/
def padLo (q : FVec Ideal S64x384 .bf16) : FVec Ideal S128x384 .bf16 :=
  concatenate S128x384 0 [⟨S64x384, q⟩, ⟨S64x384, k0_pay2 (F := Ideal)⟩] concatenates_S64x384_S64x384_S128x384_d0

/-- The second key head's queries. -/
def padHi (q : FVec Ideal S64x384 .bf16) : FVec Ideal S128x384 .bf16 :=
  concatenate S128x384 0 [⟨S64x384, k0_pay2 (F := Ideal)⟩, ⟨S64x384, q⟩] concatenates_S64x384_S64x384_S128x384_d0

/-- The masked scores in base-two units. -/
def scores (mask : IVec S256x384 1) (k : FVec Ideal S256x128 .bf16) (q : FVec Ideal S128x384 .bf16) : FVec Ideal S256x384 .f32 :=
  select mask (mulf (matmul dot_S256x128_S128x384_S256x384_1_0_0_1_n_n none k q (constant S256x384 .f32 0x00000000#32)) (broadcast S256x384 log2e))
    (broadcast S256x384 (Scalar.ofBits .f32 0xFF800000#32 : Ideal .f32))

/-- The sinks of three heads in base-two units, each over its 128 columns. -/
def sinkRow (a b c : Ideal .f32) : FVec Ideal S1x384 .f32 :=
  concatenate S1x384 1 [⟨S1x128, broadcast S1x128 (Scalar.mulf a log2e)⟩, ⟨S1x128, broadcast S1x128 (Scalar.mulf b log2e)⟩,
    ⟨S1x128, broadcast S1x128 (Scalar.mulf c log2e)⟩] concatenates_S1x128_S1x128_S1x128_S1x384_d1

/-- Each column's greatest score, the sink among them. -/
def maxRow (st : FVec Ideal S256x384 .f32) (sink : FVec Ideal S1x384 .f32) : FVec Ideal S1x384 .f32 :=
  maximumf (shapeCast S1x384 (multiReduction .maximumf [0] S384 st 0xFF800000#32 reduces_S256x384_S384 (.inl rfl) rfl) shapeCasts_S384_S1x384) sink

/-- The powers of two of the scores, as stored. -/
def stored (st : FVec Ideal S256x384 .f32) : FVec Ideal S1x256x384 .bf16 :=
  shapeCast S1x256x384 (truncf .bf16 (exp2 st) bitsLt_bf16_f32) shapeCasts_S256x384_S1x256x384

/-- The scores less their column's greatest. -/
def lessMax (st : FVec Ideal S256x384 .f32) (sink : FVec Ideal S1x384 .f32) : FVec Ideal S256x384 .f32 :=
  subf st (broadcastTo S256x384 (maxRow st sink) broadcasts_S1x384_S256x384)

/-- One key head's outputs: its values weighted by the probabilities, over the column's total, which the product's
    64th row and the sink's term make up. -/
def headOut (v : FVec Ideal S64x256 .bf16) (p : Vec Ideal S1x256x384 .bf16) (e : FVec Ideal S1x384 .f32) : FVec Ideal S64x384 .f32 :=
  divf (extractStridedSlice S64x384 ![0, 0] (matmul dot_S80x256_S256x384_S80x384_1_0_0_1_n_n none
      (concatenate S80x256 0 [⟨S64x256, v⟩, ⟨S16x256, k0_pay3 (F := Ideal)⟩] concatenates_S64x256_S16x256_S80x256_d0 : FVec Ideal S80x256 .bf16)
      (shapeCast S256x384 p shapeCasts_S1x256x384_S256x384 : FVec Ideal S256x384 .bf16) (constant S80x384 .f32 0x00000000#32)) slices_S80x384_o0_0_S64x384)
    (broadcastTo S64x384 (addf (extractStridedSlice S1x384 ![64, 0] (matmul dot_S80x256_S256x384_S80x384_1_0_0_1_n_n none
      (concatenate S80x256 0 [⟨S64x256, v⟩, ⟨S16x256, k0_pay3 (F := Ideal)⟩] concatenates_S64x256_S16x256_S80x256_d0 : FVec Ideal S80x256 .bf16)
      (shapeCast S256x384 p shapeCasts_S1x256x384_S256x384 : FVec Ideal S256x384 .bf16) (constant S80x384 .f32 0x00000000#32)) slices_S80x384_o64_0_S1x384) e)
      broadcasts_S1x384_S64x384)

/-- A tile of the output from its six heads: the two key heads' outputs cut into heads, stacked and turned. -/
def stack (a b : FVec Ideal S64x384 .f32) : FVec Ideal S128x384 .bf16 :=
  truncf .bf16 (transpose S128x384 [1, 0] (concatenate S384x128 0
    [⟨S64x128, extractStridedSlice S64x128 ![0, 0] a slices_S64x384_o0_0_S64x128⟩, ⟨S64x128, extractStridedSlice S64x128 ![0, 128] a slices_S64x384_o0_128_S64x128⟩,
     ⟨S64x128, extractStridedSlice S64x128 ![0, 256] a slices_S64x384_o0_256_S64x128⟩,
     ⟨S64x128, extractStridedSlice S64x128 ![0, 0] b slices_S64x384_o0_0_S64x128⟩, ⟨S64x128, extractStridedSlice S64x128 ![0, 128] b slices_S64x384_o0_128_S64x128⟩,
     ⟨S64x128, extractStridedSlice S64x128 ![0, 256] b slices_S64x384_o0_256_S64x128⟩]
    concatenates_S64x128_S64x128_S64x128_S64x128_S64x128_S64x128_S384x128_d0) transposes_S384x128_p1_0_S128x384) bitsLt_bf16_f32

/-- A tile of the output from the values of its window and what the two key heads stored. -/
def tileOut (v : FVec Ideal S128x256 .bf16) (p0 p1 : Vec Ideal S1x256x384 .bf16) (e0 e1 : FVec Ideal S1x384 .f32) : FVec Ideal S128x384 .bf16 :=
  stack (headOut (extractStridedSlice S64x256 ![0, 0] v slices_S128x256_o0_0_S64x256) p0 e0)
    (headOut (extractStridedSlice S64x256 ![64, 0] v slices_S128x256_o64_0_S64x256) p1 e1)

/-- Head `h`'s queries at tile `r`. -/
def qTile (Q : Vec Ideal S384x1024 .bf16) (r : Fin 8) (h : Fin 6) : Vec Ideal S64x128 .bf16 :=
  View.ld Q (Rect.unit ![64 * h.val, 128 * r.val] ![64, 128] (by
    intro a; have := r.isLt; have := h.isLt; fin_cases a <;> simp [Shape.size] <;> omega))

/-- The keys of tile `r`'s window: the tile before it and itself. -/
def kTile (K : Vec Ideal S1024x128 .bf16) (Kh : Vec Ideal S128x128 .bf16) : Fin 8 → FVec Ideal S256x128 .bf16
  | ⟨0, _⟩ => concatenate S256x128 0 [⟨S128x128, shapeCast S128x128 Kh shapeCasts_S128x128_S128x128⟩,
      ⟨S128x128, shapeCast S128x128 (View.ld K (Rect.unit ![0, 0] ![128, 128] inb_S1024x128_S128x128_0_0)) shapeCasts_S128x128_S128x128⟩]
      concatenates_S128x128_S128x128_S256x128_d0
  | ⟨n + 1, h⟩ => shapeCast S256x128 (View.ld K (Rect.unit ![128 * n, 0] ![256, 128] (by
      intro a; fin_cases a <;> simp [Shape.size] <;> omega))) shapeCasts_S256x128_S256x128

/-- The values of tile `r`'s window. -/
def vTile (W : Vec Ideal S128x1024 .bf16) (Wh : Vec Ideal S128x128 .bf16) : Fin 8 → FVec Ideal S128x256 .bf16
  | ⟨0, _⟩ => concatenate S128x256 1 [⟨S128x128, shapeCast S128x128 Wh shapeCasts_S128x128_S128x128⟩,
      ⟨S128x128, shapeCast S128x128 (View.ld W (Rect.unit ![0, 0] ![128, 128] inb_S128x1024_S128x128_0_0)) shapeCasts_S128x128_S128x128⟩]
      concatenates_S128x128_S128x128_S128x256_d1
  | ⟨n + 1, h⟩ => shapeCast S128x256 (View.ld W (Rect.unit ![0, 128 * n] ![128, 256] (by
      intro a; fin_cases a <;> simp [Shape.size] <;> omega))) shapeCasts_S128x256_S128x256

/-- Tile `r`'s mask: the window, and for the first tile of a step the keys before the sequence left out. -/
def maskTile (i : BitVec 32) : Fin 8 → IVec S256x384 1
  | ⟨0, _⟩ => k0_pay7 i (iota .tc S256x384 32 [0] iota_S256x384_d0_w32) k0_pay1
  | ⟨_ + 1, _⟩ => k0_pay1

/-- The scores of the first key head's three heads at tile `r`. -/
def scoresLo (i : BitVec 32) (Q : Vec Ideal S384x1024 .bf16) (K : Vec Ideal S1024x128 .bf16) (Kh : Vec Ideal S128x128 .bf16) (r : Fin 8) : FVec Ideal S256x384 .f32 :=
  scores (maskTile i r) (kTile K Kh r) (padLo (heads (qTile Q r 0) (qTile Q r 1) (qTile Q r 2)))

/-- The scores of the second key head's three heads at tile `r`. -/
def scoresHi (i : BitVec 32) (Q : Vec Ideal S384x1024 .bf16) (K : Vec Ideal S1024x128 .bf16) (Kh : Vec Ideal S128x128 .bf16) (r : Fin 8) : FVec Ideal S256x384 .f32 :=
  scores (maskTile i r) (kTile K Kh r) (padHi (heads (qTile Q r 3) (qTile Q r 4) (qTile Q r 5)))

/-- Head `h`'s sink as the body reads it. -/
def sinkAt (s : Vec Ideal S6 .f32) (h : Fin 6) : Ideal .f32 :=
  View.ld s (Rect.unit ![h.val] ![1] (by intro a; have := h.isLt; fin_cases a; simp [Shape.size])) (Shape.Idx.first (s := S1) (by decide))

/-- Tile `r` of the output when the scores are known to be bounded. -/
def tilePlain (i : BitVec 32) (s : Vec Ideal S6 .f32) (Q : Vec Ideal S384x1024 .bf16) (K : Vec Ideal S1024x128 .bf16) (Kh : Vec Ideal S128x128 .bf16)
    (W : Vec Ideal S128x1024 .bf16) (Wh : Vec Ideal S128x128 .bf16) (r : Fin 8) : FVec Ideal S128x384 .bf16 :=
  tileOut (vTile W Wh r) (stored (scoresLo i Q K Kh r)) (stored (scoresHi i Q K Kh r))
    (exp2 (sinkRow (sinkAt s 0) (sinkAt s 1) (sinkAt s 2))) (exp2 (sinkRow (sinkAt s 3) (sinkAt s 4) (sinkAt s 5)))

/-- Tile `r` of the output when each column's greatest score is taken off first. -/
def tileShifted (i : BitVec 32) (s : Vec Ideal S6 .f32) (Q : Vec Ideal S384x1024 .bf16) (K : Vec Ideal S1024x128 .bf16) (Kh : Vec Ideal S128x128 .bf16)
    (W : Vec Ideal S128x1024 .bf16) (Wh : Vec Ideal S128x128 .bf16) (r : Fin 8) : FVec Ideal S128x384 .bf16 :=
  tileOut (vTile W Wh r) (stored (lessMax (scoresLo i Q K Kh r) (sinkRow (sinkAt s 0) (sinkAt s 1) (sinkAt s 2))))
    (stored (lessMax (scoresHi i Q K Kh r) (sinkRow (sinkAt s 3) (sinkAt s 4) (sinkAt s 5))))
    (exp2 (subf (sinkRow (sinkAt s 0) (sinkAt s 1) (sinkAt s 2)) (maxRow (scoresLo i Q K Kh r) (sinkRow (sinkAt s 0) (sinkAt s 1) (sinkAt s 2)))))
    (exp2 (subf (sinkRow (sinkAt s 3) (sinkAt s 4) (sinkAt s 5)) (maxRow (scoresHi i Q K Kh r) (sinkRow (sinkAt s 3) (sinkAt s 4) (sinkAt s 5)))))

/-- The output block's eight tiles as the body stores them, last first. -/
def tiles (f : Fin 8 → FVec Ideal S128x384 .bf16) : List (View.Piece (Elt Ideal) S1024x384 .bf16) :=
  [⟨Rect.unit ![896, 0] ![128, 384] inb_S1024x384_S128x384_896_0, f 7⟩, ⟨Rect.unit ![768, 0] ![128, 384] inb_S1024x384_S128x384_768_0, f 6⟩,
   ⟨Rect.unit ![640, 0] ![128, 384] inb_S1024x384_S128x384_640_0, f 5⟩, ⟨Rect.unit ![512, 0] ![128, 384] inb_S1024x384_S128x384_512_0, f 4⟩,
   ⟨Rect.unit ![384, 0] ![128, 384] inb_S1024x384_S128x384_384_0, f 3⟩, ⟨Rect.unit ![256, 0] ![128, 384] inb_S1024x384_S128x384_256_0, f 2⟩,
   ⟨Rect.unit ![128, 0] ![128, 384] inb_S1024x384_S128x384_128_0, f 1⟩, ⟨Rect.unit ![0, 0] ![128, 384] inb_S1024x384_S128x384_0_0, f 0⟩]

variable (m : (ℓ : Loc nD τ sig) → Buf (Elt Ideal) ℓ)

/-- The grid's second coordinate as the body sees it. -/
abbrev stepWord (t : Fin cfg0.N) : BitVec 32 := BitVec.ofNat 32 (grid0.coords t 1).val

set_option maxHeartbeats 4000000 in
/-- What the unshifted branch leaves in the output block. -/
theorem outPlain_eq (c : Dev nD) (t : Fin cfg0.N) (h h') :
    outPlain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) h h'
      = View.canon (tiles (tilePlain (stepWord t) (iblk m c 1 t) (iblk m c 2 t) (iblk m c 3 t) (iblk m c 4 t) (iblk m c 5 t) (iblk m c 6 t))) := by
  unfold outPlain
  frame_open
  simp (disch := decide) only [↓ View.readCov_skip, ↓ View.readCov_cons_toLoadRect, ↓ View.readCov_fill]
  frame_out
  rfl

end Cert.Swa
-- ==== Proof.SwaShift.lean ====
/- What the shifted branch of the sliding-window kernel leaves in its output block. -/
module

public import proofs.«01_k».proof.Proof.SwaVec
public import Idealize.ShloMosaic.Lib.Pipeline.ValueKit
public import Idealize.ShloMosaic.Lib.Pipeline.ReadBack
public import Idealize.ShloMosaic.Lib.StableHlo.Run
public import Idealize.ShloMosaic.Lib.Pointwise

@[expose] public section

set_option maxRecDepth 16384

noncomputable section

namespace Cert.Swa

open Cert.KernelIdeal Cert.KernelIdeal.Gen
open Idealize.ShloMosaic Idealize.ShloMosaic.TcCoe

variable (m : (ℓ : Loc nD τ sig) → Buf (Elt Ideal) ℓ)

set_option maxHeartbeats 1000000 in
/-- What the shifted branch leaves in the output block. -/
theorem outShifted_eq (c : Dev nD) (t : Fin cfg0.N) (h h') :
    outShifted c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) h h'
      = View.canon (tiles (tileShifted (stepWord t) (iblk m c 1 t) (iblk m c 2 t) (iblk m c 3 t) (iblk m c 4 t) (iblk m c 5 t) (iblk m c 6 t))) := by
  unfold outShifted
  frame_open
  simp (disch := decide) only [StableHlo.readPieces, Memref.IsWhole.read_unread, ↓ View.readCov_skip, ↓ View.readCov_cons_toLoadRect, ↓ View.readCov_fill]
  frame_out
  simp (disch := decide) only [StableHlo.readPieces, Memref.IsWhole.read_unread, View.ld_unit_lit']
  rfl

end Cert.Swa
-- ==== Proof.SwaMath.lean ====
/- The softmax with a sink over one window, in the extended reals: the form with powers of two and no shift, the same
   less the column's greatest score, and the reference's normalised weights are one value, however the values lie. -/
module

public import Idealize.ShloMosaic.PureOps.Ideal
public import Mathlib.Analysis.SpecialFunctions.Pow.Real

@[expose] public section

noncomputable section

namespace Cert.SwaMath

open Idealize.ShloMosaic

theorem coe_sum {n : ℕ} (f : Fin n → ℝ) : ((∑ j, f j : ℝ) : EReal) = ∑ j, (f j : EReal) := by
  classical
  induction (Finset.univ : Finset (Fin n)) using Finset.induction_on with
  | empty => simp
  | insert a s ha ih => rw [Finset.sum_insert ha, Finset.sum_insert ha, EReal.coe_add, ih]

/-- A non-negative real factor distributes over a sum of extended reals. -/
theorem sum_mul_coe {n : ℕ} (f : Fin n → EReal) (c : ℝ) (hc : 0 ≤ c) : (∑ j, f j) * (c : EReal) = ∑ j, f j * (c : EReal) := by
  classical
  induction (Finset.univ : Finset (Fin n)) using Finset.induction_on with
  | empty => simp
  | insert a s ha ih =>
    rw [Finset.sum_insert ha, Finset.sum_insert ha, EReal.right_distrib_of_nonneg_of_ne_top (by exact_mod_cast hc) (EReal.coe_ne_top c), ih]

theorem div_coe (x : EReal) (r : ℝ) (hr : r ≠ 0) : Ideal.div x (r : EReal) = x * ((r⁻¹ : ℝ) : EReal) := by
  unfold Ideal.div
  rw [if_neg (by exact_mod_cast hr), EReal.coe_inv]

/-- The weight of window position `j`: the exponential of its score where the mask is on. -/
def weight {n : ℕ} (on : Fin n → Prop) [DecidablePred on] (x : Fin n → ℝ) (j : Fin n) : ℝ := if on j then Real.exp (x j) else 0

theorem weight_nonneg {n : ℕ} (on : Fin n → Prop) [DecidablePred on] (x : Fin n → ℝ) (j : Fin n) : 0 ≤ weight on x j := by
  unfold weight; split
  · exact (Real.exp_pos _).le
  · exact le_rfl

/-- The softmax with a sink: the values under the weights over the weights' total, the sink's weight counted in it. -/
def attend {n : ℕ} (on : Fin n → Prop) [DecidablePred on] (x : Fin n → ℝ) (z : ℝ) (v : Fin n → EReal) : EReal :=
  ∑ j, v j * ((weight on x j / ((∑ j, weight on x j) + Real.exp z) : ℝ) : EReal)

theorem total_pos {n : ℕ} (on : Fin n → Prop) [DecidablePred on] (x : Fin n → ℝ) (z : ℝ) : 0 < (∑ j, weight on x j) + Real.exp z :=
  add_pos_of_nonneg_of_pos (Finset.sum_nonneg fun j _ => weight_nonneg on x j) (Real.exp_pos z)

/-- Weights and total may carry a common positive factor, and the division may come last. -/
theorem quotient_eq {n : ℕ} (on : Fin n → Prop) [DecidablePred on] (x : Fin n → ℝ) (z t : ℝ) (ht : 0 < t) (v : Fin n → EReal) :
    Ideal.div (∑ j, v j * ((weight on x j * t : ℝ) : EReal)) ((∑ j, ((weight on x j * t : ℝ) : EReal)) + ((Real.exp z * t : ℝ) : EReal))
      = attend on x z v := by
  have hW := total_pos on x z
  rw [← coe_sum, ← EReal.coe_add, ← Finset.sum_mul, ← add_mul, div_coe _ _ (mul_pos hW ht).ne', sum_mul_coe _ _ (inv_nonneg.mpr (mul_pos hW ht).le)]
  unfold attend
  refine Finset.sum_congr rfl fun j _ => ?_
  rw [mul_assoc, ← EReal.coe_mul]
  congr 2
  field_simp

/-- The same with each weight divided before the values are met. -/
theorem normalised_eq {n : ℕ} (on : Fin n → Prop) [DecidablePred on] (x : Fin n → ℝ) (z t : ℝ) (ht : 0 < t) (v : Fin n → EReal) :
    (∑ j, v j * Ideal.div ((weight on x j * t : ℝ) : EReal) ((∑ j, ((weight on x j * t : ℝ) : EReal)) + ((Real.exp z * t : ℝ) : EReal)))
      = attend on x z v := by
  have hW := total_pos on x z
  rw [← coe_sum, ← EReal.coe_add, ← Finset.sum_mul, ← add_mul]
  unfold attend
  refine Finset.sum_congr rfl fun j _ => ?_
  rw [div_coe _ _ (mul_pos hW ht).ne', ← EReal.coe_mul]
  congr 2
  field_simp

/-- Only the positions the mask lets through count. -/
theorem attend_congr {n : ℕ} (on on' : Fin n → Prop) [DecidablePred on] [DecidablePred on'] (x x' : Fin n → ℝ) (z : ℝ) (v v' : Fin n → EReal)
    (ho : ∀ j, on j ↔ on' j) (h : ∀ j, on j → x j = x' j ∧ v j = v' j) : attend on x z v = attend on' x' z v' := by
  have hw : ∀ j, weight on x j = weight on' x' j := fun j => by
    unfold weight
    by_cases hj : on j
    · rw [if_pos hj, if_pos ((ho j).mp hj), (h j hj).1]
    · rw [if_neg hj, if_neg fun h' => hj ((ho j).mpr h')]
  unfold attend
  simp only [hw]
  refine Finset.sum_congr rfl fun j _ => ?_
  by_cases hj : on j
  · rw [(h j hj).2]
  · have h0 : weight on' x' j = 0 := if_neg fun h' => hj ((ho j).mpr h')
    simp [h0]

/-! ## The kernel's powers of two -/

theorem exp2_scaled (x μ : ℝ) : Ideal.exp2 ((x : EReal) * (((Real.log 2)⁻¹ : ℝ) : EReal) - (μ : EReal)) = ((Real.exp x * (2 : ℝ) ^ (-μ) : ℝ) : EReal) := by
  rw [← EReal.coe_mul, ← EReal.coe_sub, Ideal.exp2_coe]
  congr 1
  change (2 : ℝ) ^ (x * (Real.log 2)⁻¹ - μ) = _
  rw [sub_eq_add_neg, Real.rpow_add two_pos]
  congr 1
  rw [Real.rpow_def_of_pos two_pos]
  congr 1
  have : Real.log 2 ≠ 0 := (Real.log_pos one_lt_two).ne'
  field_simp

theorem exp2_masked {n : ℕ} (on : Fin n → Prop) [DecidablePred on] (x : Fin n → ℝ) (μ : ℝ) (s : Fin n → EReal)
    (hs : ∀ j, s j = if on j then (x j : EReal) * (((Real.log 2)⁻¹ : ℝ) : EReal) else ⊥) (j : Fin n) :
    Ideal.exp2 (s j - (μ : EReal)) = ((weight on x j * (2 : ℝ) ^ (-μ) : ℝ) : EReal) := by
  rw [hs j]
  unfold weight
  by_cases hj : on j
  · rw [if_pos hj, if_pos hj, exp2_scaled]
  · rw [if_neg hj, if_neg hj, EReal.bot_sub, Ideal.exp2_bot, zero_mul, EReal.coe_zero]

/-- The shifted branch's quotient, at any real shift. -/
theorem shifted_eq {n : ℕ} (on : Fin n → Prop) [DecidablePred on] (x : Fin n → ℝ) (z μ : ℝ) (s v : Fin n → EReal)
    (hs : ∀ j, s j = if on j then (x j : EReal) * (((Real.log 2)⁻¹ : ℝ) : EReal) else ⊥) :
    Ideal.div (∑ j, v j * Ideal.exp2 (s j - (μ : EReal)))
      ((∑ j, Ideal.exp2 (s j - (μ : EReal))) + Ideal.exp2 ((z : EReal) * (((Real.log 2)⁻¹ : ℝ) : EReal) - (μ : EReal))) = attend on x z v := by
  simp only [exp2_masked on x μ s hs, exp2_scaled]
  exact quotient_eq on x z _ (Real.rpow_pos_of_pos two_pos _) v

/-- The unshifted branch's quotient. -/
theorem plain_eq {n : ℕ} (on : Fin n → Prop) [DecidablePred on] (x : Fin n → ℝ) (z : ℝ) (s v : Fin n → EReal)
    (hs : ∀ j, s j = if on j then (x j : EReal) * (((Real.log 2)⁻¹ : ℝ) : EReal) else ⊥) :
    Ideal.div (∑ j, v j * Ideal.exp2 (s j))
      ((∑ j, Ideal.exp2 (s j)) + Ideal.exp2 ((z : EReal) * (((Real.log 2)⁻¹ : ℝ) : EReal))) = attend on x z v := by
  have h := shifted_eq on x z 0 s v hs
  simpa only [EReal.coe_zero, sub_zero] using h

/-- The greatest of finitely many masked real scores and a real sink is real. -/
theorem max_real {n : ℕ} (on : Fin n → Prop) [DecidablePred on] (y : Fin n → ℝ) (u : ℝ) (s : Fin n → EReal)
    (hs : ∀ j, s j = if on j then (y j : EReal) else ⊥) :
    ∃ μ : ℝ, max ((Finset.univ : Finset (Fin n)).fold max ⊥ s) (u : EReal) = (μ : EReal) := by
  have hlt : max ((Finset.univ : Finset (Fin n)).fold max ⊥ s) (u : EReal) < ⊤ := by
    refine max_lt ?_ (EReal.coe_lt_top u)
    rw [Finset.fold_max_lt]
    refine ⟨bot_lt_top, fun j _ => ?_⟩
    rw [hs j]; split
    · exact EReal.coe_lt_top _
    · exact bot_lt_top
  have hgt : ⊥ < max ((Finset.univ : Finset (Fin n)).fold max ⊥ s) (u : EReal) := lt_max_of_lt_right (EReal.bot_lt_coe u)
  exact ⟨_, (EReal.coe_toReal hlt.ne hgt.ne').symm⟩

/-! ## The reference's weights -/

theorem exp_masked {n : ℕ} (on : Fin n → Prop) [DecidablePred on] (x : Fin n → ℝ) (μ : ℝ) (s : Fin n → EReal)
    (hs : ∀ j, s j = if on j then (x j : EReal) else ⊥) (j : Fin n) :
    Ideal.exp (s j - (μ : EReal)) = ((weight on x j * Real.exp (-μ) : ℝ) : EReal) := by
  rw [hs j]
  unfold weight
  by_cases hj : on j
  · rw [if_pos hj, if_pos hj, ← EReal.coe_sub, Ideal.exp_coe, sub_eq_add_neg, Real.exp_add]
  · rw [if_neg hj, if_neg hj, EReal.bot_sub, Ideal.exp_bot, zero_mul, EReal.coe_zero]

/-- The reference's sum, at any real shift. -/
theorem reference_eq {n : ℕ} (on : Fin n → Prop) [DecidablePred on] (x : Fin n → ℝ) (z μ : ℝ) (s v : Fin n → EReal)
    (hs : ∀ j, s j = if on j then (x j : EReal) else ⊥) :
    (∑ j, v j * Ideal.div (Ideal.exp (s j - (μ : EReal))) ((∑ j, Ideal.exp (s j - (μ : EReal))) + Ideal.exp ((z : EReal) - (μ : EReal))))
      = attend on x z v := by
  have hz : Ideal.exp ((z : EReal) - (μ : EReal)) = ((Real.exp z * Real.exp (-μ) : ℝ) : EReal) := by
    rw [← EReal.coe_sub, Ideal.exp_coe, sub_eq_add_neg, Real.exp_add]
  simp only [exp_masked on x μ s hs, hz]
  exact normalised_eq on x z _ (Real.exp_pos _) v

end Cert.SwaMath
-- ==== Proof.SwaAt.lean ====
/- The sliding-window kernel's tile of the output at an index. -/
module

public import proofs.«01_k».proof.Proof.SwaVec
public import proofs.«01_k».proof.Proof.SwaMath
public import Idealize.ShloMosaic.Lib.IdealHost

@[expose] public section

set_option maxRecDepth 16384

noncomputable section

namespace Cert.Swa

open Cert.KernelIdeal Cert.KernelIdeal.Gen
open Idealize.ShloMosaic Idealize.ShloMosaic.TcCoe

theorem log2e_eq : (log2e : EReal) = (((Real.log 2)⁻¹ : ℝ) : EReal) := IdealRules.named_const.ideal_named_scalar _ _ _ _ rfl

theorem negInf_eq : Ideal.ofBits .f32 0xFF800000#32 = ⊥ := by
  simp [Ideal.ofBits, Ideal.ieee]

/-- The masked scores at an index: the key's features against the query's, in base-two units. -/
theorem scores_at (mask : IVec S256x384 1) (k : FVec Ideal S256x128 .bf16) (q : FVec Ideal S128x384 .bf16) (j : Fin 256) (n : Fin 384) :
    scores mask k q (ix2 j n) = if mask (ix2 j n) = 1#1 then (∑ e : Fin 128, k (ix2 j e) * q (ix2 e n)) * (((Real.log 2)⁻¹ : ℝ) : EReal) else ⊥ := by
  pointwise [scores, log2e_eq, negInf_eq]
  rfl

theorem headOut_at (v : FVec Ideal S64x256 .bf16) (st : FVec Ideal S256x384 .f32) (e : FVec Ideal S1x384 .f32) (d : Fin 64) (n : Fin 384) :
    headOut v (stored st) (exp2 e) (ix2 d n)
      = Ideal.div (∑ j : Fin 256, v (ix2 d j) * Ideal.exp2 (st (ix2 j n))) ((∑ j : Fin 256, Ideal.exp2 (st (ix2 j n))) + Ideal.exp2 (e (ix2 0 n))) := by
  pointwise [headOut, stored, k0_pay3, Ideal.ofBits_one_bf16, one_mul]
  rfl

theorem maxRow_at (st : FVec Ideal S256x384 .f32) (sink : FVec Ideal S1x384 .f32) (n : Fin 384) :
    maxRow st sink (ix2 0 n) = max ((Finset.univ : Finset (Fin 256)).fold max ⊥ fun j => st (ix2 j n)) (sink (ix2 0 n)) := by
  pointwise [maxRow, negInf_eq]

theorem lessMax_at (st : FVec Ideal S256x384 .f32) (sink : FVec Ideal S1x384 .f32) (j : Fin 256) (n : Fin 384) :
    lessMax st sink (ix2 j n) = st (ix2 j n) - maxRow st sink (ix2 0 n) := by
  pointwise [lessMax]

theorem stack_lo (f g : FVec Ideal S64x384 .f32) (q : Fin 128) (a : Fin 3) (d : Fin 64) :
    stack f g (ix2 q ⟨64 * a.val + d.val, by omega⟩) = f (ix2 d ⟨128 * a.val + q.val, by omega⟩) := by
  pointwise [stack]
  obtain ⟨a, ha⟩ := a
  obtain ⟨d, hd⟩ := d
  dsimp only
  split_ifs <;> first
    | (exfalso; omega)
    | exact congrArg _ (congrArg₂ ix2 (Fin.ext (by dsimp only; omega)) (Fin.ext (by dsimp only; omega)))

theorem stack_hi (f g : FVec Ideal S64x384 .f32) (q : Fin 128) (a : Fin 3) (d : Fin 64) :
    stack f g (ix2 q ⟨64 * (3 + a.val) + d.val, by omega⟩) = g (ix2 d ⟨128 * a.val + q.val, by omega⟩) := by
  pointwise [stack]
  obtain ⟨a, ha⟩ := a
  obtain ⟨d, hd⟩ := d
  dsimp only
  split_ifs <;> first
    | (exfalso; omega)
    | exact congrArg _ (congrArg₂ ix2 (Fin.ext (by dsimp only; omega)) (Fin.ext (by dsimp only; omega)))

theorem sinkRow_at (s : Fin 3 → EReal) (a : Fin 3) (q : Fin 128) :
    sinkRow (s 0) (s 1) (s 2) (ix2 0 ⟨128 * a.val + q.val, by omega⟩) = s a * (((Real.log 2)⁻¹ : ℝ) : EReal) := by
  pointwise [sinkRow, log2e_eq]
  obtain ⟨q, hq⟩ := q
  obtain ⟨_ | _ | _ | a, ha⟩ := a <;> dsimp only <;> split_ifs <;> first
    | (exfalso; omega)
    | rfl

theorem heads_at (f : Fin 3 → Vec Ideal S64x128 .bf16) (e : Fin 64) (a : Fin 3) (q : Fin 128) :
    heads (f 0) (f 1) (f 2) (ix2 e ⟨128 * a.val + q.val, by omega⟩) = f a (ix2 e q) := by
  pointwise [heads]
  obtain ⟨q, hq⟩ := q
  obtain ⟨_ | _ | _ | a, ha⟩ := a <;> dsimp only <;> split_ifs <;> first
    | (exfalso; omega)
    | exact congrArg (f _) (congrArg₂ ix2 rfl (Fin.ext (by dsimp only; omega)))

/-- The first key head's scores contract its own 64 features only. -/
theorem dot_lo (k : FVec Ideal S256x128 .bf16) (q : FVec Ideal S64x384 .bf16) (j : Fin 256) (n : Fin 384) :
    (∑ e : Fin 128, k (ix2 j e) * padLo q (ix2 e n)) = ∑ e : Fin 64, k (ix2 j ⟨e.val, by omega⟩) * q (ix2 e n) := by
  pointwise [padLo, k0_pay2]
  simp only [mul_zero, Finset.sum_const_zero, add_zero, zero_add]

theorem dot_hi (k : FVec Ideal S256x128 .bf16) (q : FVec Ideal S64x384 .bf16) (j : Fin 256) (n : Fin 384) :
    (∑ e : Fin 128, k (ix2 j e) * padHi q (ix2 e n)) = ∑ e : Fin 64, k (ix2 j ⟨64 + e.val, by omega⟩) * q (ix2 e n) := by
  pointwise [padHi, k0_pay2]
  simp only [mul_zero, Finset.sum_const_zero, add_zero, zero_add]

/-- A column's position among its head's 128 queries, as the kernel computes it. -/
theorem column_word : ∀ n : Fin 384, Scalar.select
    (IntOp.andi (IntOp.xori (IntOp.cmpi .slt (IntOp.remsi ArithUnit.vector (BitVec.ofNat 32 n.val) (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi ArithUnit.vector (BitVec.ofNat 32 n.val) (Scalar.select (Scalar.cmpi .eq 128#32 0#32) 1#32 128#32)) 0#32))
    (IntOp.addi (IntOp.remsi ArithUnit.vector (BitVec.ofNat 32 n.val) (Scalar.select (Scalar.cmpi .eq 128#32 0#32) 1#32 128#32))
      (Scalar.select (Scalar.cmpi .eq 128#32 0#32) 1#32 128#32))
    (IntOp.remsi ArithUnit.vector (BitVec.ofNat 32 n.val) (Scalar.select (Scalar.cmpi .eq 128#32 0#32) 1#32 128#32)) = BitVec.ofNat 32 (n.val % 128) := by
  decide +kernel

theorem window_word : ∀ (q : Fin 128) (j : Fin 256), IntOp.andi
    (IntOp.cmpi .sge (IntOp.subi (IntOp.addi 128#32 (BitVec.ofNat 32 q.val)) (BitVec.ofNat 32 j.val)) 0#32)
    (IntOp.cmpi .slt (IntOp.subi (IntOp.addi 128#32 (BitVec.ofNat 32 q.val)) (BitVec.ofNat 32 j.val)) 128#32) = 1#1 ↔ q.val < j.val ∧ j.val ≤ q.val + 128 := by
  decide +kernel

theorem mask_at (j : Fin 256) (a : Fin 3) (q : Fin 128) :
    k0_pay1 (ix2 j ⟨128 * a.val + q.val, by omega⟩) = 1#1 ↔ q.val < j.val ∧ j.val ≤ q.val + 128 := by
  pointwise [k0_pay1]
  have h := column_word ⟨128 * a.val + q.val, by omega⟩
  rw [show (128 * a.val + q.val) % 128 = q.val by omega] at h
  simp only [h]
  exact window_word q j

theorem halo_word : ∀ (w : BitVec 1) (j : Fin 256) (i : Fin 16),
    IntOp.andi w (IntOp.ori (IntOp.cmpi .sge (BitVec.ofNat 32 j.val) 128#32) (Scalar.cmpi .sgt (BitVec.ofNat 32 i.val) 0#32)) = 1#1
      ↔ w = 1#1 ∧ (128 ≤ j.val ∨ 0 < i.val) := by
  decide +kernel

/-- The positions of tile `r`'s window that query `q` of step `i` attends to. -/
def seen (i : Fin 16) (r : Fin 8) (q : Fin 128) (j : Fin 256) : Prop :=
  (q.val < j.val ∧ j.val ≤ q.val + 128) ∧ (128 ≤ j.val ∨ 0 < 8 * i.val + r.val)

instance (i : Fin 16) (r : Fin 8) (q : Fin 128) : DecidablePred (seen i r q) := fun j => by unfold seen; infer_instance

theorem maskTile_at (i : Fin 16) (r : Fin 8) (j : Fin 256) (a : Fin 3) (q : Fin 128) :
    maskTile (BitVec.ofNat 32 i.val) r (ix2 j ⟨128 * a.val + q.val, by omega⟩) = 1#1 ↔ seen i r q j := by
  match r with
  | ⟨0, _⟩ =>
    unfold maskTile seen
    pointwise [k0_pay7]
    rw [halo_word, mask_at]
    simp
  | ⟨n + 1, _⟩ =>
    unfold maskTile seen
    rw [mask_at]
    simp

end Cert.Swa
-- ==== Proof.SwaTile.lean ====
/- Each tile of the sliding-window kernel's output, in either branch, is the softmax with a sink over its window; and the
   blocks the body reads are blocks of the arguments. -/
module

public import proofs.«01_k».proof.Proof.SwaAt

@[expose] public section

set_option maxRecDepth 16384

noncomputable section

namespace Cert.Swa

open Cert.KernelIdeal Cert.KernelIdeal.Gen
open Idealize.ShloMosaic Idealize.ShloMosaic.TcCoe
open Cert.SwaMath (attend)

/-- A sum of products of reals, as an extended real. -/
theorem dot_coe {n : ℕ} (x y : Fin n → ℝ) : (∑ e, (x e : EReal) * (y e : EReal)) = ((∑ e, x e * y e : ℝ) : EReal) := by
  rw [SwaMath.coe_sum]; simp only [EReal.coe_mul]

section Column

variable (v : FVec Ideal S64x256 .bf16) (st : FVec Ideal S256x384 .f32) (sk : FVec Ideal S1x384 .f32) (d : Fin 64) (n : Fin 384)
  (on : Fin 256 → Prop) [DecidablePred on] (x : Fin 256 → ℝ) (z : ℝ)
  (hs : ∀ j, st (ix2 j n) = if on j then (x j : EReal) * (((Real.log 2)⁻¹ : ℝ) : EReal) else ⊥)
  (hz : sk (ix2 0 n) = (z : EReal) * (((Real.log 2)⁻¹ : ℝ) : EReal))

include hs hz

/-- The unshifted branch at one output entry. -/
theorem plain_at : headOut v (stored st) (exp2 sk) (ix2 d n) = attend on x z fun j => v (ix2 d j) := by
  rw [headOut_at, hz]
  exact SwaMath.plain_eq on x z (fun j => st (ix2 j n)) (fun j => v (ix2 d j)) hs

/-- The shifted branch at one output entry. -/
theorem shifted_at : headOut v (stored (lessMax st sk)) (exp2 (subf sk (maxRow st sk))) (ix2 d n) = attend on x z fun j => v (ix2 d j) := by
  obtain ⟨μ, hμ⟩ := SwaMath.max_real on (fun j => x j * (Real.log 2)⁻¹) (z * (Real.log 2)⁻¹) (fun j => st (ix2 j n))
    (fun j => by rw [hs j, EReal.coe_mul])
  rw [EReal.coe_mul, ← hz, ← maxRow_at] at hμ
  rw [headOut_at]
  simp only [lessMax_at]
  rw [show subf sk (maxRow st sk) (ix2 0 n) = sk (ix2 0 n) - maxRow st sk (ix2 0 n) from rfl, hμ, hz]
  exact SwaMath.shifted_eq on x z μ (fun j => st (ix2 j n)) (fun j => v (ix2 d j)) hs

end Column

section Tile

variable (i : Fin 16) (s : Vec Ideal S6 .f32) (Q : Vec Ideal S384x1024 .bf16) (K : Vec Ideal S1024x128 .bf16) (Kh : Vec Ideal S128x128 .bf16)
  (W : Vec Ideal S128x1024 .bf16) (Wh : Vec Ideal S128x128 .bf16) (r : Fin 8) (q : Fin 128) (a : Fin 3) (d : Fin 64)
  (k : Fin 256 → Fin 64 → ℝ) (y : Fin 64 → ℝ) (z : ℝ)

theorem scoresLo_at (hk : ∀ j e, kTile K Kh r (ix2 j ⟨e.val, by omega⟩) = (k j e : EReal))
    (hq : ∀ e, qTile Q r ⟨a.val, by omega⟩ (ix2 e q) = (y e : EReal)) (j : Fin 256) :
    scoresLo (BitVec.ofNat 32 i.val) Q K Kh r (ix2 j ⟨128 * a.val + q.val, by omega⟩)
      = if seen i r q j then ((∑ e, k j e * y e : ℝ) : EReal) * (((Real.log 2)⁻¹ : ℝ) : EReal) else ⊥ := by
  unfold scoresLo
  rw [scores_at, dot_lo]
  have h := fun e => heads_at (fun a : Fin 3 => qTile Q r ⟨a.val, by omega⟩) e a q
  simp only [maskTile_at]
  rw [← dot_coe]
  refine if_congr Iff.rfl (congrArg (· * _) (Finset.sum_congr rfl fun e _ => ?_)) rfl
  rw [hk, ← hq]
  exact congrArg (_ * ·) (h e)

theorem scoresHi_at (hk : ∀ j e, kTile K Kh r (ix2 j ⟨64 + e.val, by omega⟩) = (k j e : EReal))
    (hq : ∀ e, qTile Q r ⟨3 + a.val, by omega⟩ (ix2 e q) = (y e : EReal)) (j : Fin 256) :
    scoresHi (BitVec.ofNat 32 i.val) Q K Kh r (ix2 j ⟨128 * a.val + q.val, by omega⟩)
      = if seen i r q j then ((∑ e, k j e * y e : ℝ) : EReal) * (((Real.log 2)⁻¹ : ℝ) : EReal) else ⊥ := by
  unfold scoresHi
  rw [scores_at, dot_hi]
  have h := fun e => heads_at (fun a : Fin 3 => qTile Q r ⟨3 + a.val, by omega⟩) e a q
  simp only [maskTile_at]
  rw [← dot_coe]
  refine if_congr Iff.rfl (congrArg (· * _) (Finset.sum_congr rfl fun e _ => ?_)) rfl
  rw [hk, ← hq]
  exact congrArg (_ * ·) (h e)

theorem sinkLo_at (hz : sinkAt s ⟨a.val, by omega⟩ = (z : EReal)) :
    sinkRow (sinkAt s 0) (sinkAt s 1) (sinkAt s 2) (ix2 0 ⟨128 * a.val + q.val, by omega⟩) = (z : EReal) * (((Real.log 2)⁻¹ : ℝ) : EReal) := by
  rw [← hz]; exact sinkRow_at (fun a : Fin 3 => sinkAt s ⟨a.val, by omega⟩) a q

theorem sinkHi_at (hz : sinkAt s ⟨3 + a.val, by omega⟩ = (z : EReal)) :
    sinkRow (sinkAt s 3) (sinkAt s 4) (sinkAt s 5) (ix2 0 ⟨128 * a.val + q.val, by omega⟩) = (z : EReal) * (((Real.log 2)⁻¹ : ℝ) : EReal) := by
  rw [← hz]; exact sinkRow_at (fun a : Fin 3 => sinkAt s ⟨3 + a.val, by omega⟩) a q

/-- The first key head's three heads of a tile, in either branch. -/
theorem tileLo_at (hk : ∀ j e, kTile K Kh r (ix2 j ⟨e.val, by omega⟩) = (k j e : EReal))
    (hq : ∀ e, qTile Q r ⟨a.val, by omega⟩ (ix2 e q) = (y e : EReal)) (hz : sinkAt s ⟨a.val, by omega⟩ = (z : EReal)) :
    tilePlain (BitVec.ofNat 32 i.val) s Q K Kh W Wh r (ix2 q ⟨64 * a.val + d.val, by omega⟩)
        = attend (seen i r q) (fun j => ∑ e, k j e * y e) z (fun j => vTile W Wh r (ix2 ⟨d.val, by omega⟩ j))
      ∧ tileShifted (BitVec.ofNat 32 i.val) s Q K Kh W Wh r (ix2 q ⟨64 * a.val + d.val, by omega⟩)
        = attend (seen i r q) (fun j => ∑ e, k j e * y e) z (fun j => vTile W Wh r (ix2 ⟨d.val, by omega⟩ j)) := by
  have hv : (fun j => extractStridedSlice S64x256 ![0, 0] (vTile W Wh r) slices_S128x256_o0_0_S64x256 (ix2 d j))
      = fun j => vTile W Wh r (ix2 ⟨d.val, by omega⟩ j) := by
    funext j; pointwise
  unfold tilePlain tileShifted tileOut
  rw [stack_lo, stack_lo, plain_at _ _ _ _ _ _ _ _ (scoresLo_at i Q K Kh r q a k y hk hq) (sinkLo_at s q a z hz),
    shifted_at _ _ _ _ _ _ _ _ (scoresLo_at i Q K Kh r q a k y hk hq) (sinkLo_at s q a z hz), hv]
  exact ⟨rfl, rfl⟩

/-- The second key head's three heads of a tile, in either branch. -/
theorem tileHi_at (hk : ∀ j e, kTile K Kh r (ix2 j ⟨64 + e.val, by omega⟩) = (k j e : EReal))
    (hq : ∀ e, qTile Q r ⟨3 + a.val, by omega⟩ (ix2 e q) = (y e : EReal)) (hz : sinkAt s ⟨3 + a.val, by omega⟩ = (z : EReal)) :
    tilePlain (BitVec.ofNat 32 i.val) s Q K Kh W Wh r (ix2 q ⟨64 * (3 + a.val) + d.val, by omega⟩)
        = attend (seen i r q) (fun j => ∑ e, k j e * y e) z (fun j => vTile W Wh r (ix2 ⟨64 + d.val, by omega⟩ j))
      ∧ tileShifted (BitVec.ofNat 32 i.val) s Q K Kh W Wh r (ix2 q ⟨64 * (3 + a.val) + d.val, by omega⟩)
        = attend (seen i r q) (fun j => ∑ e, k j e * y e) z (fun j => vTile W Wh r (ix2 ⟨64 + d.val, by omega⟩ j)) := by
  have hv : (fun j => extractStridedSlice S64x256 ![64, 0] (vTile W Wh r) slices_S128x256_o64_0_S64x256 (ix2 d j))
      = fun j => vTile W Wh r (ix2 ⟨64 + d.val, by omega⟩ j) := by
    funext j; pointwise
  unfold tilePlain tileShifted tileOut
  rw [stack_hi, stack_hi, plain_at _ _ _ _ _ _ _ _ (scoresHi_at i Q K Kh r q a k y hk hq) (sinkHi_at s q a z hz),
    shifted_at _ _ _ _ _ _ _ _ (scoresHi_at i Q K Kh r q a k y hk hq) (sinkHi_at s q a z hz), hv]
  exact ⟨rfl, rfl⟩

end Tile

end Cert.Swa
-- ==== Proof.SwaBlk.lean ====
/- The blocks the sliding-window kernel's body reads, as blocks of the arguments. -/
module

public import proofs.«01_k».proof.Proof.SwaVec
public import Idealize.ShloMosaic.Lib.IdealHost

@[expose] public section

set_option maxRecDepth 16384

noncomputable section

namespace Cert.Swa

open Cert.KernelIdeal Cert.KernelIdeal.Gen
open Idealize.ShloMosaic Idealize.ShloMosaic.TcCoe

theorem idx : ∀ t : Fin cfg0.N, win0_1.index t = ![0] ∧ win0_2.index t = ![0, t.val] ∧ win0_3.index t = ![t.val, 0]
    ∧ win0_4.index t = ![8 * t.val - 1, 0] ∧ win0_5.index t = ![0, t.val] ∧ win0_6.index t = ![0, 8 * t.val - 1] ∧ win0_7.index t = ![t.val, 0] :=
  (by decide +kernel : ∀ t : Fin grid0.N, _)

theorem step_val : ∀ t : Fin cfg0.N, (grid0.coords t 1).val = t.val % 16 := (by decide +kernel : ∀ t : Fin grid0.N, _)

variable (m : (ℓ : Loc nD τ sig) → Buf (Elt Ideal) ℓ)

/-- The flattened row `R`'s query features. -/
def qA (c : Dev nD) (R : Fin 32768) (h : Fin 6) (e : Fin 64) : EReal :=
  (m ((c : Thread nD τ).loc main_arg2) : FVec Ideal S2x16384x6x64 .f32) (ix4 ⟨R.val / 16384, by omega⟩ ⟨R.val % 16384, by omega⟩ h e)

/-- The flattened row `R`'s key features. -/
def kA (c : Dev nD) (R : Fin 32768) (g : Fin 2) (e : Fin 64) : EReal :=
  (m ((c : Thread nD τ).loc main_arg3) : FVec Ideal S2x16384x2x64 .f32) (ix4 ⟨R.val / 16384, by omega⟩ ⟨R.val % 16384, by omega⟩ g e)

/-- The flattened row `R`'s value features. -/
def vA (c : Dev nD) (R : Fin 32768) (g : Fin 2) (e : Fin 64) : EReal :=
  (m ((c : Thread nD τ).loc main_arg4) : FVec Ideal S2x16384x2x64 .f32) (ix4 ⟨R.val / 16384, by omega⟩ ⟨R.val % 16384, by omega⟩ g e)

theorem eighth_eq : Ideal.ofBits .f32 0x3E000000#32 = (((1 : ℝ) / 8 : ℝ) : EReal) := by
  simp [Ideal.ofBits, Ideal.ieee, -EReal.coe_mul]; norm_num

theorem V_q (c : Dev nD) (h : Fin 6) (e : Fin 64) (R : Fin 32768) :
    (V m c main_v4 : FVec Ideal S384x32768 .bf16) (ix2 ⟨64 * h.val + e.val, by omega⟩ R) = qA m c R h e * (((1 : ℝ) / 8 : ℝ) : EReal) := by
  have hV : (V m c main_v4 : FVec Ideal S384x32768 .bf16) = truncf .bf16 (transpose S384x32768 [1, 0] (shapeCast S32768x384
      (mulf (m ((c : Thread nD τ).loc main_arg2)) (broadcastInDim S2x16384x6x64 ![] bcast_S_S2x16384x6x64 (constant S_ .f32 0x3E000000#32)) : FVec Ideal S2x16384x6x64 .f32)
      shapeCasts_S2x16384x6x64_S32768x384) transposes_S32768x384_S384x32768_1_0) bitsLt_bf16_f32 := by
    show StableHlo.after hostOps0 _ _ = _
    after_results
    rfl
  rw [hV]
  pointwise [qA, eighth_eq]

theorem rows_at (x : FVec Ideal S2x16384x2x64 .f32) (R : Fin 32768) (g : Fin 2) (e : Fin 64) :
    shapeCast S32768x128 x shapeCasts_S2x16384x2x64_S32768x128 (ix2 R ⟨64 * g.val + e.val, by omega⟩)
      = x (ix4 ⟨R.val / 16384, by omega⟩ ⟨R.val % 16384, by omega⟩ g e) := by
  pointwise

theorem V_k (c : Dev nD) (R : Fin 32768) (g : Fin 2) (e : Fin 64) :
    (V m c main_v6 : FVec Ideal S32768x128 .bf16) (ix2 R ⟨64 * g.val + e.val, by omega⟩) = kA m c R g e := by
  have hV : (V m c main_v6 : FVec Ideal S32768x128 .bf16) = truncf (φ := .f32) (F := Ideal) .bf16 (shapeCast S32768x128
      (m ((c : Thread nD τ).loc main_arg3) : FVec Ideal S2x16384x2x64 .f32) shapeCasts_S2x16384x2x64_S32768x128) bitsLt_bf16_f32 := by
    show StableHlo.after hostOps0 _ _ = _
    after_results
    rfl
  rw [hV]
  exact rows_at _ R g e

theorem V_v (c : Dev nD) (g : Fin 2) (e : Fin 64) (R : Fin 32768) :
    (V m c main_v9 : FVec Ideal S128x32768 .bf16) (ix2 ⟨64 * g.val + e.val, by omega⟩ R) = vA m c R g e := by
  have hV : (V m c main_v9 : FVec Ideal S128x32768 .bf16) = truncf (φ := .f32) (F := Ideal) .bf16 (transpose S128x32768 [1, 0] (shapeCast S32768x128
      (m ((c : Thread nD τ).loc main_arg4) : FVec Ideal S2x16384x2x64 .f32) shapeCasts_S2x16384x2x64_S32768x128) transposes_S32768x128_S128x32768_1_0) bitsLt_bf16_f32 := by
    show StableHlo.after hostOps0 _ _ = _
    after_results
    rfl
  have ht : ∀ x : FVec Ideal S32768x128 .f32, transpose S128x32768 [1, 0] x transposes_S32768x128_S128x32768_1_0
      (ix2 ⟨64 * g.val + e.val, by omega⟩ R) = x (ix2 R ⟨64 * g.val + e.val, by omega⟩) := by
    intro x; pointwise
  rw [hV]
  exact (ht _).trans (rows_at _ R g e)

theorem kTile_at (K : Vec Ideal S1024x128 .bf16) (Kh : Vec Ideal S128x128 .bf16) (r : Fin 8) (j : Fin 256) (n : Fin 128) :
    kTile K Kh r (ix2 j n) = if h : r.val = 0 ∧ j.val < 128 then Kh (ix2 ⟨j.val, h.2⟩ n) else K (ix2 ⟨128 * r.val + j.val - 128, by omega⟩ n) := by
  obtain ⟨r, hr⟩ := r
  cases r with
  | zero => pointwise [kTile]
  | succ r =>
    pointwise [kTile]
    rw [dif_neg (fun h => h.1)]
    exact congrArg (fun x => K (ix2 x n)) (Fin.ext (by dsimp only; omega))

theorem vTile_at (W : Vec Ideal S128x1024 .bf16) (Wh : Vec Ideal S128x128 .bf16) (r : Fin 8) (j : Fin 256) (n : Fin 128) :
    vTile W Wh r (ix2 n j) = if h : r.val = 0 ∧ j.val < 128 then Wh (ix2 n ⟨j.val, h.2⟩) else W (ix2 n ⟨128 * r.val + j.val - 128, by omega⟩) := by
  obtain ⟨r, hr⟩ := r
  cases r with
  | zero => pointwise [vTile]
  | succ r =>
    pointwise [vTile]
    rw [dif_neg (fun h => h.1)]
    exact congrArg (fun x => W (ix2 n x)) (Fin.ext (by dsimp only; omega))

theorem qTile_at (Q : Vec Ideal S384x1024 .bf16) (r : Fin 8) (h : Fin 6) (e : Fin 64) (q : Fin 128) :
    qTile Q r h (ix2 e q) = Q (ix2 ⟨64 * h.val + e.val, by omega⟩ ⟨128 * r.val + q.val, by omega⟩) := by
  pointwise [qTile]

theorem sinkAt_at (s : Vec Ideal S6 .f32) (h : Fin 6) : sinkAt s h = s (ix1 h) := by
  pointwise [sinkAt]

theorem lt_step (t : Fin cfg0.N) : t.val < 32 := lt_of_lt_of_eq t.isLt N_0

theorem blkQ (c : Dev nD) (t : Fin cfg0.N) (h : Fin 6) (e : Fin 64) (x : Fin 1024) :
    (iblk m c 2 t : Vec Ideal S384x1024 .bf16) (ix2 ⟨64 * h.val + e.val, by omega⟩ x)
      = qA m c ⟨t.val * 1024 + x.val, by have := lt_step t; omega⟩ h e * (((1 : ℝ) / 8 : ℝ) : EReal) := by
  rw [← V_q]
  blk_point [iblk, idx t]

theorem blkK (c : Dev nD) (t : Fin cfg0.N) (g : Fin 2) (e : Fin 64) (x : Fin 1024) :
    (iblk m c 3 t : Vec Ideal S1024x128 .bf16) (ix2 x ⟨64 * g.val + e.val, by omega⟩)
      = kA m c ⟨t.val * 1024 + x.val, by have := lt_step t; omega⟩ g e := by
  rw [← V_k]
  blk_point [iblk, idx t]

theorem blkKh (c : Dev nD) (t : Fin cfg0.N) (g : Fin 2) (e : Fin 64) (x : Fin 128) :
    (iblk m c 4 t : Vec Ideal S128x128 .bf16) (ix2 x ⟨64 * g.val + e.val, by omega⟩)
      = kA m c ⟨(8 * t.val - 1) * 128 + x.val, by have := lt_step t; omega⟩ g e := by
  rw [← V_k]
  blk_point [iblk, idx t]

theorem blkV (c : Dev nD) (t : Fin cfg0.N) (g : Fin 2) (e : Fin 64) (x : Fin 1024) :
    (iblk m c 5 t : Vec Ideal S128x1024 .bf16) (ix2 ⟨64 * g.val + e.val, by omega⟩ x)
      = vA m c ⟨t.val * 1024 + x.val, by have := lt_step t; omega⟩ g e := by
  rw [← V_v]
  blk_point [iblk, idx t]

theorem blkVh (c : Dev nD) (t : Fin cfg0.N) (g : Fin 2) (e : Fin 64) (x : Fin 128) :
    (iblk m c 6 t : Vec Ideal S128x128 .bf16) (ix2 ⟨64 * g.val + e.val, by omega⟩ x)
      = vA m c ⟨(8 * t.val - 1) * 128 + x.val, by have := lt_step t; omega⟩ g e := by
  rw [← V_v]
  blk_point [iblk, idx t]

theorem blkS (c : Dev nD) (t : Fin cfg0.N) (h : Fin 6) :
    (iblk m c 1 t : Vec Ideal S6 .f32) (ix1 h) = (m ((c : Thread nD τ).loc main_arg1) : FVec Ideal S6 .f32) (ix1 h) := by
  blk_point [iblk, V, idx t]

/-- The flattened row of position `j` of the window of tile `r` of step `t`; the positions before the first row fold onto the rows from 0 on. -/
def wrow (t : Fin 32) (r : Fin 8) (j : Fin 256) : Fin 32768 :=
  ⟨if 8 * t.val + r.val = 0 ∧ j.val < 128 then j.val else 128 * (8 * t.val + r.val) + j.val - 128, by split <;> omega⟩

theorem win_k (c : Dev nD) (t : Fin cfg0.N) (r : Fin 8) (j : Fin 256) (g : Fin 2) (e : Fin 64) :
    kTile (iblk m c 3 t) (iblk m c 4 t) r (ix2 j ⟨64 * g.val + e.val, by omega⟩) = kA m c (wrow ⟨t.val, lt_step t⟩ r j) g e := by
  rw [kTile_at]
  split_ifs with h
  · rw [blkKh]; refine congrArg (kA m c · g e) (Fin.ext ?_); simp only [wrow]; split_ifs <;> omega
  · rw [blkK]; refine congrArg (kA m c · g e) (Fin.ext ?_); simp only [wrow]; split_ifs <;> omega

theorem win_v (c : Dev nD) (t : Fin cfg0.N) (r : Fin 8) (j : Fin 256) (g : Fin 2) (e : Fin 64) :
    vTile (iblk m c 5 t) (iblk m c 6 t) r (ix2 ⟨64 * g.val + e.val, by omega⟩ j) = vA m c (wrow ⟨t.val, lt_step t⟩ r j) g e := by
  rw [vTile_at]
  split_ifs with h
  · rw [blkVh]; refine congrArg (vA m c · g e) (Fin.ext ?_); simp only [wrow]; split_ifs <;> omega
  · rw [blkV]; refine congrArg (vA m c · g e) (Fin.ext ?_); simp only [wrow]; split_ifs <;> omega

theorem win_q (c : Dev nD) (t : Fin cfg0.N) (r : Fin 8) (h : Fin 6) (e : Fin 64) (q : Fin 128) :
    qTile (iblk m c 2 t) r h (ix2 e q)
      = qA m c ⟨t.val * 1024 + (128 * r.val + q.val), by have := lt_step t; omega⟩ h e * (((1 : ℝ) / 8 : ℝ) : EReal) := by
  rw [qTile_at, blkQ]

theorem win_s (c : Dev nD) (t : Fin cfg0.N) (h : Fin 6) :
    sinkAt (iblk m c 1 t) h = (m ((c : Thread nD τ).loc main_arg1) : FVec Ideal S6 .f32) (ix1 h) := by
  rw [sinkAt_at, blkS]

end Cert.Swa
-- ==== Proof.SwaRef.lean ====
/- The sliding-window reference's result read at an index: the softmax with a sink over the window. -/
module

public import proofs.«01_k».proof.Proof.SwaMath
public import proofs.«01_k».proof.Proof.Gen.ReferenceIdeal.Run
public import Idealize.ShloMosaic.Lib.IdealHost
public import Idealize.ShloMosaic.Lib.Pointwise

@[expose] public section

set_option maxRecDepth 16384

noncomputable section

namespace Cert.SwaRef

open Cert.ReferenceIdeal Cert.ReferenceIdeal.Gen
open Idealize.ShloMosaic Idealize.ShloMosaic.TcCoe
open Cert.SwaMath (attend)

/-- Every block's window of rows: the block before it, zeros before the first, and the block. -/
def win (x : FVec Ideal S2x16384x2x64 .f32) : FVec Ideal S2x128x256x2x64 .f32 :=
  concatenate S2x128x256x2x64 2 [⟨S2x128x128x2x64, (extractStridedSlice S2x128x128x2x64 ![0, 0, 0, 0, 0] (pad S2x129x128x2x64 ![0, 1, 0, 0, 0] ![0, 0, 0, 0, 0] ![0, 0, 0, 0, 0] (shapeCast _ x shapeCasts_S2x16384x2x64_S2x128x128x2x64) (sitofp (F := Ideal) .f32 (constantI S_ 32 0#32)) pads_S2x128x128x2x64_S2x129x128x2x64_000_100_000_000_000 h_S_ : FVec Ideal S2x129x128x2x64 .f32) slices_S2x129x128x2x64_S2x128x128x2x64_0_0_0_0_0)⟩, ⟨S2x128x128x2x64, (shapeCast _ x shapeCasts_S2x16384x2x64_S2x128x128x2x64)⟩] concatenates_S2x128x128x2x64_S2x128x128x2x64_S2x128x256x2x64_d2

/-- The positions each query sees. -/
def mask : IVec S128x128x256 1 :=
  (andi (broadcastInDim S128x128x256 ![0, 1, 2] bcast_S1x128x256_S128x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S128x128x256 ![0, 1, 2] bcast_S128x1x256_S128x128x256_0_1_2 (ori (broadcastInDim S128x1x256 ![0, 1, 2] bcast_S128x1x1_S128x1x256_0_1_2 (cmpi .sgt (broadcastInDim S128x1x1 ![0] bcast_S128_S128x1x1_0 (iotaInDim S128 32 0)) (broadcastInDim S128x1x1 ![] bcast_S_S128x1x1 (constantI S_ 32 0#32)))) (broadcastInDim S128x1x256 ![0, 1, 2] bcast_S1x1x256_S128x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))

/-- The scaled scores, the positions a query does not see at minus infinity. -/
def scores (mk : IVec S128x128x256 1) (kw : FVec Ideal S2x128x256x2x64 .f32) (q : FVec Ideal S2x16384x6x64 .f32) : FVec Ideal S2x128x2x3x128x256 .f32 :=
  select (broadcastInDim S2x128x2x3x128x256 ![0, 1, 2, 3, 4, 5] bcast_S1x128x1x1x128x256_S2x128x2x3x128x256_0_1_2_3_4_5 (broadcastInDim S1x128x1x1x128x256 ![1, 4, 5] bcast_S128x128x256_S1x128x1x1x128x256_1_4_5 mk)) (mulf (transpose S2x128x2x3x128x256 [0, 1, 2, 5, 4, 3] (Host.dotGeneral dot_S2x128x256x2x64_S2x128x128x2x3x64_S2x128x2x256x128x3_4_5_2_24_013_013 none kw (shapeCast _ q shapeCasts_S2x16384x6x64_S2x128x128x2x3x64)) transposes_S2x128x2x256x128x3_S2x128x2x3x128x256_0_1_2_5_4_3) (broadcastInDim S2x128x2x3x128x256 ![] bcast_S_S2x128x2x3x128x256 (constant S_ .f32 0x3E000000#32))) (broadcastInDim S2x128x2x3x128x256 ![] bcast_S_S2x128x2x3x128x256 (id (constant S_ .f32 0xFF800000#32)))

/-- The scores with each head's sink after them. -/
def joined (sc : FVec Ideal S2x128x2x3x128x256 .f32) (s : FVec Ideal S6 .f32) : FVec Ideal S2x128x2x3x128x257 .f32 :=
  concatenate S2x128x2x3x128x257 5 [⟨S2x128x2x3x128x256, sc⟩, ⟨S2x128x2x3x128x1, (broadcastInDim S2x128x2x3x128x1 ![0, 1, 2, 3, 4, 5] bcast_S1x1x2x3x1x1_S2x128x2x3x128x1_0_1_2_3_4_5 (shapeCast _ s shapeCasts_S6_S1x1x2x3x1x1))⟩] concatenates_S2x128x2x3x128x256_S2x128x2x3x128x1_S2x128x2x3x128x257_d5

/-- Each row's greatest entry. -/
def rowMax (x : FVec Ideal S2x128x2x3x128x257 .f32) : FVec Ideal S2x128x2x3x128 .f32 :=
  maximumf (broadcastInDim S2x128x2x3x128 ![] bcast_S_S2x128x2x3x128 (constant S_ .f32 0xFF800000#32)) (Host.reduce FloatOps.maximumf x (constant S_ .f32 0xFF800000#32) reducesTo_S2x128x2x3x128x257_S2x128x2x3x128_d5 h_S_)

/-- The exponentials of the entries less their row's shift. -/
def expo (x : FVec Ideal S2x128x2x3x128x257 .f32) (mx : FVec Ideal S2x128x2x3x128 .f32) : FVec Ideal S2x128x2x3x128x257 .f32 :=
  Host.exp (subf x (broadcastInDim S2x128x2x3x128x257 ![0, 1, 2, 3, 4, 5] bcast_S2x128x2x3x128x1_S2x128x2x3x128x257_0_1_2_3_4_5 (broadcastInDim S2x128x2x3x128x1 ![0, 1, 2, 3, 4] bcast_S2x128x2x3x128_S2x128x2x3x128x1_0_1_2_3_4 mx)))

/-- Each entry over its row's sum. -/
def ratio (x : FVec Ideal S2x128x2x3x128x257 .f32) : FVec Ideal S2x128x2x3x128x257 .f32 :=
  Host.divf x (broadcastInDim S2x128x2x3x128x257 ![0, 1, 2, 3, 4, 5] bcast_S2x128x2x3x128x1_S2x128x2x3x128x257_0_1_2_3_4_5 (broadcastInDim S2x128x2x3x128x1 ![0, 1, 2, 3, 4] bcast_S2x128x2x3x128_S2x128x2x3x128x1_0_1_2_3_4 (Host.reduceAdd x (constant S_ .f32 0x0#32) reducesTo_S2x128x2x3x128x257_S2x128x2x3x128_d5 h_S_)))

/-- The values weighted, the heads back beside each other. -/
def outp (vw : FVec Ideal S2x128x256x2x64 .f32) (p : FVec Ideal S2x128x2x3x128x257 .f32) : FVec Ideal S32768x384 .bf16 :=
  truncf (φ := .f32) .bf16 (shapeCast S32768x384 (transpose S2x128x128x2x3x64 [0, 1, 5, 2, 4, 3] (Host.dotGeneral dot_S2x128x256x2x64_S2x128x2x3x128x256_S2x128x2x64x3x128_2_5_4_34_013_012 none vw (extractStridedSlice S2x128x2x3x128x256 ![0, 0, 0, 0, 0, 0] p slices_S2x128x2x3x128x257_S2x128x2x3x128x256_0_0_0_0_0_0)) transposes_S2x128x2x64x3x128_S2x128x128x2x3x64_0_1_5_2_4_3) shapeCasts_S2x128x128x2x3x64_S32768x384) bitsLt_bf16_f32

variable (m : (ℓ : Loc nD τ sig) → Buf (Elt Ideal) ℓ)

/-- The composed term is the named pieces put together. -/
theorem res_eq (c : Dev nD) : Value.res_out0 m c
    = (let j := joined (scores mask (win (m ((c : Thread nD τ).loc main_arg3))) (m ((c : Thread nD τ).loc main_arg2))) (m ((c : Thread nD τ).loc main_arg1))
       outp (win (m ((c : Thread nD τ).loc main_arg4))) (ratio (expo j (rowMax j))) : FVec Ideal S32768x384 .bf16) := by
  unfold Value.res_out0 Value.res_main_v64
  rfl

end Cert.SwaRef
-- ==== Proof.SwaRefAt.lean ====
/- The sliding-window reference's result read at an index: the softmax with a sink over the window. -/
module

public import proofs.«01_k».proof.Proof.SwaRef

@[expose] public section

set_option maxRecDepth 16384

noncomputable section

namespace Cert.SwaRef

open Cert.ReferenceIdeal Cert.ReferenceIdeal.Gen
open Idealize.ShloMosaic Idealize.ShloMosaic.TcCoe
open Cert.SwaMath (attend)

theorem win_at (x : FVec Ideal S2x16384x2x64 .f32) (b : Fin 2) (n : Fin 128) (j : Fin 256) (g : Fin 2) (e : Fin 64)
    (hj : 128 ≤ j.val ∨ 0 < n.val) :
    win x (ix5 b n j g e) = x (ix4 b ⟨128 * n.val + j.val - 128, by omega⟩ g e) := by
  pointwise [win]
  split_ifs <;> first
    | exact congrArg (fun y => x (ix4 b y g e)) (Fin.ext (by dsimp only; omega))
    | (exfalso; omega)

/-- The positions of block `n`'s window that its query `q` attends to. -/
def on (n q : Fin 128) (j : Fin 256) : Prop := (q.val < j.val ∧ j.val ≤ q.val + 128) ∧ (128 ≤ j.val ∨ 0 < n.val)

instance (n q : Fin 128) : DecidablePred (on n q) := fun j => by unfold on; infer_instance

theorem window_word : ∀ (q : Fin 128) (j : Fin 256), IntOp.andi
    (IntOp.cmpi .sge (IntOp.subi (IntOp.addi (BitVec.ofNat 32 q.val) 128#32) (BitVec.ofNat 32 j.val)) 0#32)
    (IntOp.cmpi .slt (IntOp.subi (IntOp.addi (BitVec.ofNat 32 q.val) 128#32) (BitVec.ofNat 32 j.val)) 128#32) = 1#1 ↔ q.val < j.val ∧ j.val ≤ q.val + 128 := by
  decide +kernel

theorem first_word : ∀ (n : Fin 128) (j : Fin 256),
    IntOp.ori (IntOp.cmpi .sgt (BitVec.ofNat 32 n.val) 0#32) (IntOp.cmpi .sge (BitVec.ofNat 32 j.val) 128#32) = 1#1 ↔ (128 ≤ j.val ∨ 0 < n.val) := by
  decide +kernel

theorem and_word : ∀ u w : BitVec 1, IntOp.andi u w = 1#1 ↔ u = 1#1 ∧ w = 1#1 := by decide

theorem mask_at (n q : Fin 128) (j : Fin 256) : mask (ix3 n q j) = 1#1 ↔ on n q j := by
  pointwise [mask]
  rw [and_word, first_word]
  exact and_congr (window_word q j) Iff.rfl

theorem eighth_eq : Ideal.ofBits .f32 0x3E000000#32 = (((1 : ℝ) / 8 : ℝ) : EReal) := by
  simp [Ideal.ofBits, Ideal.ieee, -EReal.coe_mul]; norm_num

theorem negInf_eq : Ideal.ofBits .f32 0xFF800000#32 = (⊥ : EReal) := by
  simp [Ideal.ofBits, Ideal.ieee]

theorem select_word (c : BitVec 1) (x y : EReal) : Scalar.select c x y = if c = 1#1 then x else y := by
  unfold Scalar.select; congr

theorem scores_at (mk : IVec S128x128x256 1) (kw : FVec Ideal S2x128x256x2x64 .f32) (q : FVec Ideal S2x16384x6x64 .f32)
    (b : Fin 2) (n : Fin 128) (g : Fin 2) (a : Fin 3) (i : Fin 128) (j : Fin 256) :
    scores mk kw q (ix6 b n g a i j) = if mk (ix3 n i j) = 1#1 then
      (∑ e : Fin 64, kw (ix5 b n j g e) * q (ix4 b ⟨128 * n.val + i.val, by omega⟩ ⟨3 * g.val + a.val, by omega⟩ e)) * (((1 : ℝ) / 8 : ℝ) : EReal) else ⊥ := by
  pointwise [scores]
  rw [select_word, eighth_eq]
  refine if_congr Iff.rfl (congrArg (· * _) (Finset.sum_congr rfl fun e _ => congrArg (_ * ·) (congrArg₂ (fun x y => q (ix4 b x y e)) ?_ ?_))) negInf_eq
  · exact Fin.ext (by dsimp only; omega)
  · exact Fin.ext (by dsimp only; omega)

theorem joined_entry (sc : FVec Ideal S2x128x2x3x128x256 .f32) (s : FVec Ideal S6 .f32) (b : Fin 2) (n : Fin 128) (g : Fin 2) (a : Fin 3) (i : Fin 128) (j : Fin 257) :
    joined sc s (ix6 b n g a i j) = if h : j.val < 256 then sc (ix6 b n g a i ⟨j.val, h⟩) else s (ix1 ⟨3 * g.val + a.val, by omega⟩) := by
  pointwise [joined]
  split_ifs
  · rfl
  · exact congrArg (fun y => s (ix1 y)) (Fin.ext (by dsimp only; omega))

theorem joined_at (sc : FVec Ideal S2x128x2x3x128x256 .f32) (s : FVec Ideal S6 .f32) (b : Fin 2) (n : Fin 128) (g : Fin 2) (a : Fin 3) (i : Fin 128) (j : Fin 256) :
    joined sc s (ix6 b n g a i j.castSucc) = sc (ix6 b n g a i j) :=
  (joined_entry sc s b n g a i j.castSucc).trans (dif_pos (show j.castSucc.val < 256 from j.isLt))

theorem joined_last (sc : FVec Ideal S2x128x2x3x128x256 .f32) (s : FVec Ideal S6 .f32) (b : Fin 2) (n : Fin 128) (g : Fin 2) (a : Fin 3) (i : Fin 128) :
    joined sc s (ix6 b n g a i (Fin.last 256)) = s (ix1 ⟨3 * g.val + a.val, by omega⟩) :=
  (joined_entry sc s b n g a i (Fin.last 256)).trans (dif_neg (by simp))

theorem reduces : S2x128x2x3x128x257.Reduces [5] S2x128x2x3x128 := by decide

theorem lift_at (h : S2x128x2x3x128x257.Reduces [5] S2x128x2x3x128) (b : Fin 2) (n : Fin 128) (g : Fin 2) (a : Fin 3) (i : Fin 128) (j : Fin 257) :
    h.lift (ix5 b n g a i) j = ix6 b n g a i j := by
  funext c
  refine Fin.ext ?_
  fin_cases c <;> rfl

theorem floor_at (y : FVec Ideal S2x128x2x3x128 .f32) (b : Fin 2) (n : Fin 128) (g : Fin 2) (a : Fin 3) (i : Fin 128) :
    maximumf (broadcastInDim S2x128x2x3x128 ![] bcast_S_S2x128x2x3x128 (constant S_ .f32 0xFF800000#32)) y (ix5 b n g a i) = y (ix5 b n g a i) := by
  pointwise
  rw [negInf_eq]
  exact bot_sup_eq _

/-- A host reduction over the last axis with an operation that is the maximum. -/
theorem reduce_max (f : EReal → EReal → EReal) (hf : f = max) (x : S2x128x2x3x128x257.Idx → EReal) (c : S_.Idx → EReal)
    (h' : S2x128x2x3x128x257.ReducesTo [5] S2x128x2x3x128) (hu : 0 < S_.numel) (b : Fin 2) (n : Fin 128) (g : Fin 2) (a : Fin 3) (i : Fin 128) :
    Host.reduce f x c h' hu (ix5 b n g a i) = (Finset.univ : Finset (Fin 257)).fold max (c (Shape.Idx.first hu)) fun j => x (ix6 b n g a i j) := by
  subst hf
  refine (Host.reduce_eq_fold_single (max : EReal → EReal → EReal) x c h' reduces hu (ix5 b n g a i)).trans ?_
  exact congrArg (fun y : Fin 257 → EReal => Finset.fold max (c (Shape.Idx.first hu)) y Finset.univ) (funext fun j => congrArg x (lift_at reduces b n g a i j))

theorem rowMax_at (x : FVec Ideal S2x128x2x3x128x257 .f32) (b : Fin 2) (n : Fin 128) (g : Fin 2) (a : Fin 3) (i : Fin 128) :
    rowMax x (ix5 b n g a i) = (Finset.univ : Finset (Fin 257)).fold max ⊥ fun j => x (ix6 b n g a i j) := by
  unfold rowMax
  rw [floor_at]
  refine (reduce_max (FloatOps.maximumf (F := Ideal) (φ := .f32)) rfl x _ _ h_S_ b n g a i).trans ?_
  exact congrArg (fun c => Finset.fold max c _ Finset.univ) negInf_eq

theorem expo_at (x mx) (b : Fin 2) (n : Fin 128) (g : Fin 2) (a : Fin 3) (i : Fin 128) (j : Fin 257) :
    expo x mx (ix6 b n g a i j) = Ideal.exp (x (ix6 b n g a i j) - mx (ix5 b n g a i)) := by
  pointwise [expo]

theorem ratio_at (x) (b : Fin 2) (n : Fin 128) (g : Fin 2) (a : Fin 3) (i : Fin 128) (j : Fin 257) :
    ratio x (ix6 b n g a i j) = Ideal.div (x (ix6 b n g a i j)) ((∑ j : Fin 256, x (ix6 b n g a i j.castSucc)) + x (ix6 b n g a i (Fin.last 256))) := by
  pointwise [ratio]
  rw [Ideal.hostReduceAdd_single _ reduces, zero_add]
  refine congrArg (Ideal.div _) (((Finset.sum_congr rfl fun j _ => congrArg x (lift_at reduces b n g a i j)) : _ = ∑ j : Fin 257, x (ix6 b n g a i j)).trans ?_)
  exact Fin.sum_univ_castSucc _

theorem out_at (vw p) (b : Fin 2) (n : Fin 128) (g : Fin 2) (a : Fin 3) (i : Fin 128) (d : Fin 64) :
    outp vw p (ix2 ⟨128 * (128 * b.val + n.val) + i.val, by omega⟩ ⟨64 * (3 * g.val + a.val) + d.val, by omega⟩)
      = ∑ j : Fin 256, vw (ix5 b n j g d) * p (ix6 b n g a i j.castSucc) := by
  pointwise [outp]
  exact Finset.sum_congr rfl fun _ _ => rfl

/-- The named pieces together, at one output entry. -/
theorem attend_at (q : FVec Ideal S2x16384x6x64 .f32) (k v : FVec Ideal S2x16384x2x64 .f32) (s : FVec Ideal S6 .f32)
    (b : Fin 2) (n : Fin 128) (g : Fin 2) (a : Fin 3) (i : Fin 128) (d : Fin 64) (x : Fin 256 → Fin 64 → ℝ) (y : Fin 64 → ℝ) (z : ℝ)
    (hk : ∀ j e, (128 ≤ j.val ∨ 0 < n.val) → k (ix4 b ⟨128 * n.val + j.val - 128, by omega⟩ g e) = (x j e : EReal))
    (hq : ∀ e, q (ix4 b ⟨128 * n.val + i.val, by omega⟩ ⟨3 * g.val + a.val, by omega⟩ e) = (y e : EReal))
    (hz : s (ix1 ⟨3 * g.val + a.val, by omega⟩) = (z : EReal)) :
    (let j := joined (scores mask (win k) q) s
     outp (win v) (ratio (expo j (rowMax j)))) (ix2 ⟨128 * (128 * b.val + n.val) + i.val, by omega⟩ ⟨64 * (3 * g.val + a.val) + d.val, by omega⟩)
      = attend (on n i) (fun j => (∑ e, x j e * y e) * (1 / 8)) z
          (fun j => v (ix4 b ⟨128 * n.val + j.val - 128, by omega⟩ g d)) := by
  have hs : ∀ j : Fin 256, joined (scores mask (win k) q) s (ix6 b n g a i j.castSucc)
      = if on n i j then (((∑ e, x j e * y e) * (1 / 8) : ℝ) : EReal) else ⊥ := by
    intro j
    rw [joined_at, scores_at]
    by_cases h : on n i j
    · rw [if_pos ((mask_at n i j).2 h), if_pos h, EReal.coe_mul, SwaMath.coe_sum]
      refine congrArg (· * _) (Finset.sum_congr rfl fun e _ => ?_)
      rw [win_at k b n j g e h.2, hk j e h.2, hq, EReal.coe_mul]
    · rw [if_neg (fun h' => h ((mask_at n i j).1 h')), if_neg h]
  have hl : joined (scores mask (win k) q) s (ix6 b n g a i (Fin.last 256)) = (z : EReal) := (joined_last _ _ b n g a i).trans hz
  dsimp only
  obtain ⟨μ, hμ⟩ := SwaMath.max_real (fun j : Fin 257 => ∀ h : j.val < 256, on n i ⟨j.val, h⟩)
    (fun j : Fin 257 => if h : j.val < 256 then (∑ e, x ⟨j.val, h⟩ e * y e) * (1 / 8) else z) z
    (fun j => joined (scores mask (win k) q) s (ix6 b n g a i j)) (fun j => by
      refine Fin.lastCases ?_ (fun j => ?_) j
      · rw [hl, if_pos (fun h => absurd h (by simp)), dif_neg (by simp)]
      · rw [hs j, dif_pos (show j.castSucc.val < 256 from j.isLt)]
        exact if_congr ⟨fun h _ => h, fun h => h j.isLt⟩ rfl rfl)
  rw [max_eq_left ((Finset.le_fold_max _).2 (Or.inr ⟨Fin.last 256, Finset.mem_univ _, hl.ge⟩)), ← rowMax_at] at hμ
  rw [out_at]
  simp only [ratio_at, expo_at, hμ, hl]
  refine (SwaMath.reference_eq (on n i) _ z μ _ _ hs).trans ?_
  exact SwaMath.attend_congr _ _ _ _ _ _ _ (fun j => Iff.rfl) fun j h => ⟨rfl, win_at v b n j g d h.2⟩

end Cert.SwaRef
-- ==== Proof.SwaVal.lean ====
/- The sliding-window kernel's result is the reference's, on real sinks, queries and keys. -/
module

public import proofs.«01_k».proof.Proof.SwaFrame
public import proofs.«01_k».proof.Proof.SwaShift
public import proofs.«01_k».proof.Proof.SwaTile
public import proofs.«01_k».proof.Proof.SwaBlk
public import proofs.«01_k».proof.Proof.SwaRefAt

@[expose] public section

set_option maxRecDepth 16384

noncomputable section

namespace Cert.Swa

open Cert.KernelIdeal Cert.KernelIdeal.Gen
open Idealize.ShloMosaic Idealize.ShloMosaic.TcCoe Idealize.ShloMosaic.Tactic
open Cert.SwaMath (attend)

/-- Eight tiles that are rows of one array make that array. -/
theorem tiles_eq (f : Fin 8 → FVec Ideal S128x384 .bf16) (g : FVec Ideal S1024x384 .bf16)
    (hf : ∀ (r : Fin 8) (q : Fin 128) (n : Fin 384), f r (ix2 q n) = g (ix2 ⟨128 * r.val + q.val, by omega⟩ n)) (x : Fin 1024) (n : Fin 384) :
    View.canon (tiles f) (ix2 x n) = g (ix2 x n) := by
  unfold tiles
  canon_tiles y h
  all_goals
    obtain ⟨q, n', rfl⟩ : ∃ (q : Fin 128) (n' : Fin 384), y = ix2 q n' := ⟨y 0, y 1, by blk_ext⟩
    rw [hf]
    refine congrArg₂ (fun u w => g (ix2 u w)) (Fin.ext ?_) (Fin.ext h1.symm)
    first
    | exact (h0 : x.val = _ + q.val).symm
    | exact (Nat.zero_add q.val).trans (h0 : x.val = q.val).symm

variable (m : (ℓ : Loc nD τ sig) → Buf (Elt Ideal) ℓ)

/-- The reference's result over this program's arguments. -/
def ref (c : Dev nD) : FVec Ideal S32768x384 .bf16 :=
  let j := SwaRef.joined (SwaRef.scores SwaRef.mask (SwaRef.win (m ((c : Thread nD τ).loc main_arg3))) (m ((c : Thread nD τ).loc main_arg2))) (m ((c : Thread nD τ).loc main_arg1))
  SwaRef.outp (SwaRef.win (m ((c : Thread nD τ).loc main_arg4))) (SwaRef.ratio (SwaRef.expo j (SwaRef.rowMax j)))

/-- The sinks, queries and keys are real numbers. -/
structure Reals (c : Dev nD) : Prop where
  sink : ∀ h : Fin 6, ∃ z : ℝ, (m ((c : Thread nD τ).loc main_arg1) : FVec Ideal S6 .f32) (ix1 h) = (z : EReal)
  query : ∀ R h e, ∃ y : ℝ, qA m c R h e = (y : EReal)
  key : ∀ R g e, ∃ x : ℝ, kA m c R g e = (x : EReal)

theorem tile_ref (c : Dev nD) (hr : Reals m c) (t : Fin cfg0.N) (r : Fin 8) (q : Fin 128) (g : Fin 2) (a : Fin 3) (d : Fin 64) :
    tilePlain (stepWord t) (iblk m c 1 t) (iblk m c 2 t) (iblk m c 3 t) (iblk m c 4 t) (iblk m c 5 t) (iblk m c 6 t) r (ix2 q ⟨64 * (3 * g.val + a.val) + d.val, by omega⟩)
        = ref m c (ix2 ⟨t.val * 1024 + (128 * r.val + q.val), by have := lt_step t; omega⟩ ⟨64 * (3 * g.val + a.val) + d.val, by omega⟩)
      ∧ tileShifted (stepWord t) (iblk m c 1 t) (iblk m c 2 t) (iblk m c 3 t) (iblk m c 4 t) (iblk m c 5 t) (iblk m c 6 t) r (ix2 q ⟨64 * (3 * g.val + a.val) + d.val, by omega⟩)
        = ref m c (ix2 ⟨t.val * 1024 + (128 * r.val + q.val), by have := lt_step t; omega⟩ ⟨64 * (3 * g.val + a.val) + d.val, by omega⟩) := by
  have ht := lt_step t
  choose x hx using fun (j : Fin 256) (e : Fin 64) => hr.key (wrow ⟨t.val, ht⟩ r j) g e
  choose y hy using fun (e : Fin 64) => hr.query ⟨t.val * 1024 + (128 * r.val + q.val), by omega⟩ ⟨3 * g.val + a.val, by omega⟩ e
  obtain ⟨z, hz⟩ := hr.sink ⟨3 * g.val + a.val, by omega⟩
  have hk : ∀ j e, kTile (iblk m c 3 t) (iblk m c 4 t) r (ix2 j ⟨64 * g.val + e.val, by omega⟩) = (x j e : EReal) := fun j e =>
    (win_k m c t r j g e).trans (hx j e)
  have hq : ∀ e, qTile (iblk m c 2 t) r ⟨3 * g.val + a.val, by omega⟩ (ix2 e q) = ((y e * (1 / 8) : ℝ) : EReal) := fun e => by
    rw [win_q, hy, EReal.coe_mul]
  have hs : sinkAt (iblk m c 1 t) ⟨3 * g.val + a.val, by omega⟩ = (z : EReal) := (win_s m c t _).trans hz
  have hw : stepWord t = BitVec.ofNat 32 (⟨t.val % 16, by omega⟩ : Fin 16).val := congrArg (BitVec.ofNat 32) (step_val t)
  have hrow : ∀ j : Fin 256, (128 ≤ j.val ∨ 0 < 8 * (t.val % 16) + r.val) → ∀ e, kA m c (wrow ⟨t.val, ht⟩ r j) g e
      = (m ((c : Thread nD τ).loc main_arg3) : FVec Ideal S2x16384x2x64 .f32) (ix4 ⟨t.val / 16, by omega⟩ ⟨128 * (8 * (t.val % 16) + r.val) + j.val - 128, by omega⟩ g e) := by
    intro j hj e
    refine congrArg₂ (fun u w => (m ((c : Thread nD τ).loc main_arg3) : FVec Ideal S2x16384x2x64 .f32) (ix4 u w g e)) (Fin.ext ?_) (Fin.ext ?_) <;>
      (simp only [wrow]; split_ifs <;> omega)
  have hrowv : ∀ j : Fin 256, (128 ≤ j.val ∨ 0 < 8 * (t.val % 16) + r.val) → ∀ e, vA m c (wrow ⟨t.val, ht⟩ r j) g e
      = (m ((c : Thread nD τ).loc main_arg4) : FVec Ideal S2x16384x2x64 .f32) (ix4 ⟨t.val / 16, by omega⟩ ⟨128 * (8 * (t.val % 16) + r.val) + j.val - 128, by omega⟩ g e) := by
    intro j hj e
    refine congrArg₂ (fun u w => (m ((c : Thread nD τ).loc main_arg4) : FVec Ideal S2x16384x2x64 .f32) (ix4 u w g e)) (Fin.ext ?_) (Fin.ext ?_) <;>
      (simp only [wrow]; split_ifs <;> omega)
  have href : ref m c (ix2 ⟨t.val * 1024 + (128 * r.val + q.val), by omega⟩ ⟨64 * (3 * g.val + a.val) + d.val, by omega⟩)
      = attend (seen ⟨t.val % 16, by omega⟩ r q) (fun j => ∑ e, x j e * (y e * (1 / 8))) z (fun j => vA m c (wrow ⟨t.val, ht⟩ r j) g d) := by
    have h := SwaRef.attend_at (m ((c : Thread nD τ).loc main_arg2)) (m ((c : Thread nD τ).loc main_arg3)) (m ((c : Thread nD τ).loc main_arg4))
      (m ((c : Thread nD τ).loc main_arg1)) ⟨t.val / 16, by omega⟩ ⟨8 * (t.val % 16) + r.val, by omega⟩ g a q d x y z
      (fun j e hj => (hrow j hj e).symm.trans (hx j e))
      (fun e => by
        rw [← hy e]
        refine congrArg₂ (fun u w => (m ((c : Thread nD τ).loc main_arg2) : FVec Ideal S2x16384x6x64 .f32) (ix4 u w ⟨3 * g.val + a.val, by omega⟩ e)) (Fin.ext ?_) (Fin.ext ?_) <;>
          (dsimp only; omega)) hz
    refine (congrArg (fun u => ref m c (ix2 u ⟨64 * (3 * g.val + a.val) + d.val, by omega⟩)) (Fin.ext ?_)).trans (h.trans ?_)
    · show t.val * 1024 + (128 * r.val + q.val) = 128 * (128 * (t.val / 16) + (8 * (t.val % 16) + r.val)) + q.val
      omega
    · refine SwaMath.attend_congr _ _ _ _ _ _ _ (fun j => Iff.rfl) fun j hj => ⟨?_, (hrowv j hj.2 d).symm⟩
      rw [Finset.sum_mul]
      exact Finset.sum_congr rfl fun e _ => mul_assoc _ _ _
  rw [hw, href]
  obtain hg | hg : g.val = 0 ∨ g.val = 1 := by omega
  · have h := tileLo_at ⟨t.val % 16, by omega⟩ (iblk m c 1 t) (iblk m c 2 t) (iblk m c 3 t) (iblk m c 4 t) (iblk m c 5 t) (iblk m c 6 t) r q a d x (fun e => y e * (1 / 8)) z
      (fun j e => by rw [← hk j e]; exact congrArg (fun u => kTile (iblk m c 3 t) (iblk m c 4 t) r (ix2 j u)) (Fin.ext (by dsimp only; omega)))
      (fun e => by rw [← hq e]; exact congrArg (fun u => qTile (iblk m c 2 t) r u (ix2 e q)) (Fin.ext (by dsimp only; omega)))
      (by rw [← hs]; exact congrArg (sinkAt (iblk m c 1 t)) (Fin.ext (by dsimp only; omega)))
    rw [show (fun j => vTile (iblk m c 5 t) (iblk m c 6 t) r (ix2 ⟨d.val, by omega⟩ j)) = fun j => vA m c (wrow ⟨t.val, ht⟩ r j) g d from
      funext fun j => (congrArg (fun u => vTile (iblk m c 5 t) (iblk m c 6 t) r (ix2 u j)) (Fin.ext (by dsimp only; omega))).trans (win_v m c t r j g d)] at h
    rw [show (⟨64 * (3 * g.val + a.val) + d.val, by omega⟩ : Fin 384) = ⟨64 * a.val + d.val, by omega⟩ from Fin.ext (by dsimp only; omega)]
    exact h
  · have h := tileHi_at ⟨t.val % 16, by omega⟩ (iblk m c 1 t) (iblk m c 2 t) (iblk m c 3 t) (iblk m c 4 t) (iblk m c 5 t) (iblk m c 6 t) r q a d x (fun e => y e * (1 / 8)) z
      (fun j e => by rw [← hk j e]; exact congrArg (fun u => kTile (iblk m c 3 t) (iblk m c 4 t) r (ix2 j u)) (Fin.ext (by dsimp only; omega)))
      (fun e => by rw [← hq e]; exact congrArg (fun u => qTile (iblk m c 2 t) r u (ix2 e q)) (Fin.ext (by dsimp only; omega)))
      (by rw [← hs]; exact congrArg (sinkAt (iblk m c 1 t)) (Fin.ext (by dsimp only; omega)))
    rw [show (fun j => vTile (iblk m c 5 t) (iblk m c 6 t) r (ix2 ⟨64 + d.val, by omega⟩ j)) = fun j => vA m c (wrow ⟨t.val, ht⟩ r j) g d from
      funext fun j => (congrArg (fun u => vTile (iblk m c 5 t) (iblk m c 6 t) r (ix2 u j)) (Fin.ext (by dsimp only; omega))).trans (win_v m c t r j g d)] at h
    rw [show (⟨64 * (3 * g.val + a.val) + d.val, by omega⟩ : Fin 384) = ⟨64 * (3 + a.val) + d.val, by omega⟩ from Fin.ext (by dsimp only; omega)]
    exact h

/-- What the body leaves in the output block is the reference's result at the block's rows. -/
theorem block_at (c : Dev nD) (hr : Reals m c) (t : Fin cfg0.N) (x : Fin 1024) (n : Fin 384) :
    outsAt0 m c t (ix2 x n) = ref m c (ix2 ⟨t.val * 1024 + x.val, by have := lt_step t; omega⟩ n) := by
  have key : ∀ (r : Fin 8) (q : Fin 128) (n : Fin 384),
      tilePlain (stepWord t) (iblk m c 1 t) (iblk m c 2 t) (iblk m c 3 t) (iblk m c 4 t) (iblk m c 5 t) (iblk m c 6 t) r (ix2 q n)
        = ref m c (ix2 ⟨t.val * 1024 + (128 * r.val + q.val), by have := lt_step t; omega⟩ n)
      ∧ tileShifted (stepWord t) (iblk m c 1 t) (iblk m c 2 t) (iblk m c 3 t) (iblk m c 4 t) (iblk m c 5 t) (iblk m c 6 t) r (ix2 q n)
        = ref m c (ix2 ⟨t.val * 1024 + (128 * r.val + q.val), by have := lt_step t; omega⟩ n) := by
    intro r q n
    obtain ⟨g, a, d, rfl⟩ : ∃ (g : Fin 2) (a : Fin 3) (d : Fin 64), n = ⟨64 * (3 * g.val + a.val) + d.val, by omega⟩ :=
      ⟨⟨n.val / 192, by omega⟩, ⟨n.val / 64 % 3, by omega⟩, ⟨n.val % 64, by omega⟩, Fin.ext (by dsimp only; omega)⟩
    exact tile_ref m c hr t r q g a d
  let G : FVec Ideal S1024x384 .bf16 := fun i => ref m c (ix2 ⟨t.val * 1024 + (i 0).val, by have := lt_step t; have : (i 0).val < 1024 := (i 0).isLt; omega⟩ (i 1))
  unfold outsAt0
  split_ifs with h
  · rw [outPlain_eq]
    exact tiles_eq _ G (fun r q n => (key r q n).1) x n
  · rw [outShifted_eq]
    exact tiles_eq _ G (fun r q n => (key r q n).2) x n

/-- The kernel's output array. -/
theorem final (c : Dev nD) (hr : Reals m c) : (dats m 0 c).arrAt 7 (cfgs 0).N = ref m c := by
  refine (dats m 0 c).arrAt_eq_of_covers 7 _ (by decide +kernel) fun t _ y => ?_
  blk_simp
  rw [after0_7]
  obtain ⟨r, n, rfl⟩ : ∃ (r : Fin 1024) (n : Fin 384), y = ix2 r n := ⟨y 0, y 1, by blk_ext⟩
  refine (block_at m c hr t r n).trans (congrArg _ ?_)
  blk_ext [idx t]

end Cert.Swa
-- ==== Proof.SwaPre.lean ====
/- The precondition gives real sinks, queries and keys; with it the attention's value claim. -/
module

public import proofs.«01_k».proof.Defs
public import proofs.«01_k».proof.Proof.Gen.Pre_finite
public import proofs.«01_k».proof.Proof.SwaVal
public import Idealize.ShloMosaic.Lib.Claim

@[expose] public section

set_option maxRecDepth 16384

noncomputable section

namespace Cert.Swa

open Cert.KernelIdeal Cert.KernelIdeal.Gen
open Idealize.ShloMosaic Idealize.ShloMosaic.TcCoe Idealize.SL.Sem

theorem inf_eq : Ideal.ofBits .f32 0x7F800000#32 = (⊤ : EReal) := by
  simp [Ideal.ofBits, Ideal.ieee]

/-- An entry of an array whose absolute value compares below infinity is a real number. -/
theorem real_of_finite {s : Shape} (v w : FVec Ideal s .f32) (hw : ∀ i, w i = ⊤) (i : s.Idx)
    (h : cmpf .olt (Host.absf v) w i = 1#1) : ∃ x : ℝ, v i = (x : EReal) := by
  have h' : Ideal.cmp .olt (max (v i) (-(v i))) (w i) = 1#1 := h
  rw [hw] at h'
  have hlt : max (v i) (-(v i)) < ⊤ := by
    by_contra hc
    simp [Ideal.cmp, hc] at h'
  have h1 : v i ≠ ⊤ := fun e => by rw [e] at hlt; simp at hlt
  have h2 : v i ≠ ⊥ := fun e => by rw [e] at hlt; simp at hlt
  exact ⟨(v i).toReal, (EReal.coe_toReal h1 h2).symm⟩

variable (m : (ℓ : Loc nD τ sig) → Buf (Elt Ideal) ℓ)

theorem reals_of_pre (h : Cert.Pre_KernelIdeal_finite m) (c : Dev nD) : Reals m c := by
  obtain ⟨h1, h2, h3⟩ := h c
  unfold Cert.Pre_finite.fn at h1 h2 h3
  dsimp only at h1 h2 h3
  exact ⟨fun i => real_of_finite _ _ (fun _ => inf_eq) _ (congrFun h1 (ix1 i)),
    fun R i e => real_of_finite _ _ (fun _ => inf_eq) _ (congrFun h2 (ix4 _ _ i e)),
    fun R g e => real_of_finite _ _ (fun _ => inf_eq) _ (congrFun h3 (ix4 _ _ g e))⟩

/-- The reference program's result over arguments that agree with the kernel's. -/
theorem ref_eq (m' : (ℓ : Loc Cert.ReferenceIdeal.nD Cert.ReferenceIdeal.τ Cert.ReferenceIdeal.sig) → Buf (Elt Ideal) ℓ) (c : Dev nD)
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4)) :
    Cert.ReferenceIdeal.Value.res_out0 m' c = ref m c := by
  refine (Cert.SwaRef.res_eq m' c).trans ?_
  rw [h1, h2, h3, h4]
  rfl

end Cert.Swa
-- ==== Proof.InFrame.lean ====
/- The run of the ideal input projection: what its one case leaves in the eleven outputs, and its frame. -/
module

public import proofs.«01_k».proof.Proof.Gen.InProjIdeal.Frame.RunA
public import Idealize.ShloMosaic.Lib.Claim

@[expose] public section

set_option maxRecDepth 16384
set_option maxHeartbeats 2000000

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S1024x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).1 S1024x384.size (by sl_kernel_rfl) y

def out0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S1024x384 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).1)

theorem cover0_A_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S1x4x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.1 S1x4x384.size (by sl_kernel_rfl) y

def out0_A_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S1x4x384 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.1)

theorem cover0_A_14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.1 S1024x128.size (by sl_kernel_rfl) y

def out0_A_14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S1024x128 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.1)

theorem cover0_A_15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.1 S1024x512.size (by sl_kernel_rfl) y

def out0_A_15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S1024x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.1)

theorem cover0_A_16 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S384x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.1 S64x1024.size (by sl_kernel_rfl) y

def out0_A_16 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S384x1024 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.1)

theorem cover0_A_17 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S384x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.1 S64x1024.size (by sl_kernel_rfl) y

def out0_A_17 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S384x1024 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.1)

theorem cover0_A_18 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S4x480x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.1 ![1, 16, 256] (by sl_kernel_rfl) y

def out0_A_18 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S4x480x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.1)

theorem cover0_A_19 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.1 S128x1024.size (by sl_kernel_rfl) y

def out0_A_19 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S128x1024 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.1)

theorem cover0_A_20 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.1 S256x1024.size (by sl_kernel_rfl) y

def out0_A_20 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S256x1024 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.1)

theorem cover0_A_21 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.1 S256x1024.size (by sl_kernel_rfl) y

def out0_A_21 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S256x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.1)

theorem cover0_A_22 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.2.1 S8x1024.size (by sl_kernel_rfl) y

def out0_A_22 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1800x1024 .bf16) (harg4 : arg4.IsWhole) (arg5 : Memref sig .tc .vmem S256x256 .bf16) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S128x128 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x128 .f32) (harg12 : arg12.IsWhole) (arg13 : Memref sig .tc .vmem S1024x384 .bf16) (harg13 : arg13.IsWhole) (arg14 : Memref sig .tc .vmem S1x4x384 .f32) (harg14 : arg14.IsWhole) (arg15 : Memref sig .tc .vmem S1024x128 .bf16) (harg15 : arg15.IsWhole) (arg16 : Memref sig .tc .vmem S1024x512 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S4x480x256 .bf16) (harg19 : arg19.IsWhole) (arg20 : Memref sig .tc .vmem S128x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S8x1024 .f32) (harg23 : arg23.IsWhole)
    (x0 : Vec F S1024x1024 .f32) (x1 : Vec F S1x1024 .f32) (x2 : Vec F S1024x1024 .bf16) (x3 : Vec F S1800x1024 .bf16) (x4 : Vec F S256x256 .bf16) (x5 : Vec F S1x512 .f32) (x6 : Vec F S1024x128 .f32) (x7 : Vec F S1024x128 .f32) (x8 : Vec F S128x128 .f32) (x9 : Vec F S32x1024 .f32) (x10 : Vec F S32x1024 .f32) (x11 : Vec F S8x128 .f32) : Vec F S8x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11).2.2.2.2.2.2.2.2.2.2.1)

def outsAt0 (c : Dev nD) (t : Fin cfg0.N) : Vec F S1024x384 .bf16 × Vec F S1x4x384 .f32 × Vec F S1024x128 .bf16 × Vec F S1024x512 .bf16 × Vec F S384x1024 .bf16 × Vec F S384x1024 .bf16 × Vec F S4x480x256 .bf16 × Vec F S128x1024 .bf16 × Vec F S256x1024 .bf16 × Vec F S256x1024 .bf16 × Vec F S8x1024 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2.1
    | ⟨14, _⟩ => (outsAt0 m c t).2.2.1
    | ⟨15, _⟩ => (outsAt0 m c t).2.2.2.1
    | ⟨16, _⟩ => (outsAt0 m c t).2.2.2.2.1
    | ⟨17, _⟩ => (outsAt0 m c t).2.2.2.2.2.1
    | ⟨18, _⟩ => (outsAt0 m c t).2.2.2.2.2.2.1
    | ⟨19, _⟩ => (outsAt0 m c t).2.2.2.2.2.2.2.1
    | ⟨20, _⟩ => (outsAt0 m c t).2.2.2.2.2.2.2.2.1
    | ⟨21, _⟩ => (outsAt0 m c t).2.2.2.2.2.2.2.2.2.1
    | ⟨22, _⟩ => (outsAt0 m c t).2.2.2.2.2.2.2.2.2.2
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2.1 := by dsimp only [dats]
theorem after0_14 (c : Dev nD) (t : Fin cfg0.N) : (dats m 0 c).after 14 t = (outsAt0 m c t).2.2.1 := by dsimp only [dats]
theorem after0_15 (c : Dev nD) (t : Fin cfg0.N) : (dats m 0 c).after 15 t = (outsAt0 m c t).2.2.2.1 := by dsimp only [dats]
theorem after0_16 (c : Dev nD) (t : Fin cfg0.N) : (dats m 0 c).after 16 t = (outsAt0 m c t).2.2.2.2.1 := by dsimp only [dats]
theorem after0_17 (c : Dev nD) (t : Fin cfg0.N) : (dats m 0 c).after 17 t = (outsAt0 m c t).2.2.2.2.2.1 := by dsimp only [dats]
theorem after0_18 (c : Dev nD) (t : Fin cfg0.N) : (dats m 0 c).after 18 t = (outsAt0 m c t).2.2.2.2.2.2.1 := by dsimp only [dats]
theorem after0_19 (c : Dev nD) (t : Fin cfg0.N) : (dats m 0 c).after 19 t = (outsAt0 m c t).2.2.2.2.2.2.2.1 := by dsimp only [dats]
theorem after0_20 (c : Dev nD) (t : Fin cfg0.N) : (dats m 0 c).after 20 t = (outsAt0 m c t).2.2.2.2.2.2.2.2.1 := by dsimp only [dats]
theorem after0_21 (c : Dev nD) (t : Fin cfg0.N) : (dats m 0 c).after 21 t = (outsAt0 m c t).2.2.2.2.2.2.2.2.2.1 := by dsimp only [dats]
theorem after0_22 (c : Dev nD) (t : Fin cfg0.N) : (dats m 0 c).after 22 t = (outsAt0 m c t).2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_12 out0_A_13 out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.InProjIdeal.Gen

end
-- ==== Proof.InSpec.lean ====
/- The input projection's mathematics, index by index: the normalised rows, their projection, a head normalised over its
   64 features, and the rotation of a head's two halves. -/
module

public import Idealize.ShloMosaic.Lib.Pointwise
public import Idealize.ShloMosaic.Lib.IdealHost
public import Idealize.ShloMosaic.PureOps

@[expose] public section

noncomputable section

namespace Cert.InSpec

open Idealize.ShloMosaic

/-- One over the root of a mean square, with the normalisation's small constant. -/
def inv (s n : EReal) : EReal := Ideal.rsqrt (Ideal.div s n + Ideal.ofBits .f32 0x358637BD#32)

/-- The row of width 1024 normalised, times the gain. -/
def hn (x g : Fin 1024 → EReal) (k : Fin 1024) : EReal := x k * inv (∑ j, x j * x j) (Ideal.ofBits .f32 0x44800000#32) * g k

/-- The normalised row against one column of the weights. -/
def proj (x g w : Fin 1024 → EReal) : EReal := ∑ k, hn x g k * w k

/-- A head's 64 features normalised, times the gain. -/
def headNorm (f g : Fin 64 → EReal) (d : Fin 64) : EReal := f d * inv (∑ e, f e * f e) (Ideal.ofBits .f32 0x42800000#32) * g d

/-- The rotation of the two halves of a head by the position's angles. -/
def rope (f : Fin 64 → EReal) (c s : Fin 32 → EReal) (d : Fin 64) : EReal :=
  if h : d.val < 32 then f d * c ⟨d.val, h⟩ - f ⟨32 + d.val, by omega⟩ * s ⟨d.val, h⟩
  else f ⟨32 + (d.val - 32), by omega⟩ * c ⟨d.val - 32, by omega⟩ + f ⟨d.val - 32, by omega⟩ * s ⟨d.val - 32, by omega⟩

end Cert.InSpec

end
-- ==== Proof.InKer.lean ====
/- The pieces of the input projection's kernel at an index. -/
module

public import proofs.«01_k».proof.Proof.Gen.InProjIdeal.Skeleton
public import proofs.«01_k».proof.Proof.InSpec
public import proofs.«01_k».proof.Proof.SwaMath

@[expose] public section

set_option maxRecDepth 16384
set_option maxHeartbeats 1000000

noncomputable section

namespace Cert.InKer

open Cert.InProjIdeal Cert.InProjIdeal.Gen Idealize.ShloMosaic Cert.InSpec

variable (X : FVec Ideal S1024x1024 .f32) (G : FVec Ideal S1x1024 .f32)

theorem pay6_at (r k : Fin 1024) : k0_pay6 (F := Ideal) X G (ix2 r k) = hn (fun j => X (ix2 r j)) (fun j => G (ix2 0 j)) k := by
  pointwise [k0_pay6, hn, InSpec.inv]

theorem pay7_at (W : FVec Ideal S1024x1024 .bf16) (r n : Fin 1024) :
    k0_pay7 (F := Ideal) X G W (ix2 r n) = proj (fun j => X (ix2 r j)) (fun j => G (ix2 0 j)) (fun k => W (ix2 k n)) := by
  unfold proj; simp only [← pay6_at]
  pointwise [k0_pay7]

theorem pay17_at (W : FVec Ideal S1800x1024 .bf16) (n : Fin 1800) (r : Fin 1024) :
    k0_pay17 (F := Ideal) (k0_pay6 (F := Ideal) X G) W (ix2 n r) = proj (fun j => X (ix2 r j)) (fun j => G (ix2 0 j)) (fun k => W (ix2 n k)) := by
  unfold proj; simp only [← pay6_at]
  refine Eq.trans ?_ (Finset.sum_congr rfl fun k _ => mul_comm (W (ix2 n k)) _)
  pointwise [k0_pay17]

theorem pay8_at (W : FVec Ideal S1024x1024 .bf16) (r : Fin 1024) (n : Fin 512) :
    k0_pay8 (F := Ideal) X G W (ix2 r n) = k0_pay7 (F := Ideal) X G W (ix2 r ⟨n.val, by omega⟩) := by
  pointwise [k0_pay8]

theorem n64_eq : Ideal.ofBits .f32 0x42800000#32 = ((64 : ℝ) : EReal) := by
  simp [Ideal.ofBits, Ideal.ieee, -EReal.coe_mul]; norm_num

theorem sixtyFourth_eq : Ideal.ofBits .f32 0x3C800000#32 = (((1 : ℝ) / 64 : ℝ) : EReal) := by
  simp [Ideal.ofBits, Ideal.ieee, -EReal.coe_mul]; norm_num

/-- A sum over four heads' lanes against the matrix that keeps one head is that head's sum. -/
theorem sum_head (f : Fin 256 → ℝ) (b : ℝ) (i : Fin 4) :
    ∑ x : Fin 256, f x * (if x.val / 64 = i.val then b else 0) = (∑ e : Fin 64, f ⟨i.val * 64 + e.val, by omega⟩) * b := by
  rw [← (finProdFinEquiv (m := 4) (n := 64)).sum_comp, Fintype.sum_prod_type, Finset.sum_eq_single i, Finset.sum_mul]
  · refine Finset.sum_congr rfl fun e _ => ?_
    have h : (finProdFinEquiv (i, e) : Fin (4 * 64)).val = e.val + 64 * i.val := rfl
    rw [if_pos (by rw [h]; omega)]
    exact congrArg (f · * b) (Fin.ext (by rw [h]; simp only; omega))
  · intro k _ hk
    refine Finset.sum_eq_zero fun e _ => ?_
    have h : (finProdFinEquiv (k, e) : Fin (4 * 64)).val = e.val + 64 * k.val := rfl
    rw [if_neg (by rw [h]; intro hh; exact hk (Fin.ext (by omega))), mul_zero]
  · exact fun hi => absurd (Finset.mem_univ _) hi

/-- The mean square of one head, by the two halves of the square against the averaging matrix. -/
theorem meanSq (f : Fin 256 → EReal) (hf : ∀ x, ∃ y : ℝ, f x = (y : EReal)) (B : Fin 256 → EReal) (i : Fin 4)
    (hB : ∀ x, B x = if x.val / 64 = i.val then Ideal.ofBits .f32 0x3C800000#32 else 0) :
    (∑ x, f x * f x * B x + ∑ x, (f x * f x - f x * f x) * B x)
      = Ideal.div (∑ e : Fin 64, f ⟨i.val * 64 + e.val, by omega⟩ * f ⟨i.val * 64 + e.val, by omega⟩) (Ideal.ofBits .f32 0x42800000#32) := by
  choose y hy using hf
  have hz : ∀ x, f x * f x - f x * f x = 0 := fun x => by
    rw [hy, ← EReal.coe_mul, ← EReal.coe_sub, sub_self, EReal.coe_zero]
  have hb : ∀ x, B x = ((if x.val / 64 = i.val then (1 : ℝ) / 64 else 0 : ℝ) : EReal) := fun x => by
    rw [hB, sixtyFourth_eq]; split_ifs <;> rfl
  simp only [hz, zero_mul, Finset.sum_const_zero, add_zero]
  rw [n64_eq, Ideal.div_coe (by norm_num)]
  simp only [hb, hy, ← EReal.coe_mul]
  rw [← SwaMath.coe_sum, ← SwaMath.coe_sum, ← EReal.coe_mul]
  exact congrArg _ (sum_head (fun x => y x * y x) _ i)

theorem pay9_at (W : FVec Ideal S1024x1024 .bf16) (B : FVec Ideal S256x256 .bf16) (r : Fin 1024)
    (hK : ∀ n, ∃ y : ℝ, k0_pay8 (F := Ideal) X G W (ix2 r n) = (y : EReal))
    (hB : ∀ x y : Fin 256, B (ix2 x y) = if x.val / 64 = y.val / 64 then Ideal.ofBits .f32 0x3C800000#32 else 0)
    (h : Fin 8) (d : Fin 64) :
    k0_pay9 (F := Ideal) X G W B (ix2 r ⟨h.val * 64 + d.val, by omega⟩)
      = InSpec.inv (∑ e : Fin 64, k0_pay8 (F := Ideal) X G W (ix2 r ⟨h.val * 64 + e.val, by omega⟩) * k0_pay8 (F := Ideal) X G W (ix2 r ⟨h.val * 64 + e.val, by omega⟩))
          (Ideal.ofBits .f32 0x42800000#32) := by
  pointwise [k0_pay9, InSpec.inv]
  refine congrArg (fun z => Ideal.rsqrt (z + _)) ?_
  by_cases hn : h.val * 64 + d.val < 256
  · rw [dif_pos hn]
    refine (meanSq (fun x : Fin 256 => k0_pay8 (F := Ideal) X G W (ix2 r ⟨x.val, by omega⟩)) (fun x => hK _) _ ⟨h.val, by omega⟩ fun x => ?_).trans rfl
    rw [hB]; exact if_congr (by simp only; omega) rfl rfl
  · rw [dif_neg hn]
    refine (meanSq (fun x : Fin 256 => k0_pay8 (F := Ideal) X G W (ix2 r ⟨256 + x.val, by omega⟩)) (fun x => hK _) _ ⟨h.val - 4, by omega⟩ fun x => ?_).trans ?_
    · rw [hB]; exact if_congr (by simp only; omega) rfl rfl
    · refine congrArg (Ideal.div · _) (Finset.sum_congr rfl fun e _ => ?_)
      have he : (⟨256 + ((h.val - 4) * 64 + e.val), by omega⟩ : Fin 512) = ⟨h.val * 64 + e.val, by omega⟩ := Fin.ext (by simp only; omega)
      exact congrArg (fun z => k0_pay8 (F := Ideal) X G W (ix2 r z) * k0_pay8 (F := Ideal) X G W (ix2 r z)) he

/-- The twelve query heads are the same body on other rows. -/
def headOf (A B : FVec Ideal S64x1024 .f32) (v115 v117 : FVec Ideal S32x1024 .f32) : FVec Ideal S64x1024 .bf16 :=
  have v123 : FVec Ideal S64x1024 .f32 := mulf A A
  have v124 : FVec Ideal S1024 .f32 := multiReduction .add [0] S1024 v123 0x00000000#32 reduces_S64x1024_S1024 (.inl rfl) rfl
  have v125 : FVec Ideal S1x1024 .f32 := shapeCast S1x1024 v124 shapeCasts_S1024_S1x1024
  have v127 : FVec Ideal S1x1024 .f32 := divf v125 (broadcast S1x1024 (Scalar.ofBits .f32 0x42800000#32))
  have v129 : FVec Ideal S1x1024 .f32 := addf v127 (broadcast S1x1024 (Scalar.ofBits .f32 0x358637BD#32))
  have v130 : FVec Ideal S1x1024 .f32 := rsqrt v129
  have v131 : FVec Ideal S64x1024 .f32 := broadcastTo S64x1024 v130 broadcasts_S1x1024_S64x1024
  have v133 : FVec Ideal S64x1024 .f32 := mulf (mulf A v131) B
  have v134 : FVec Ideal S32x1024 .f32 := extractStridedSlice S32x1024 ![0, 0] v133 slices_S64x1024_o0_0_S32x1024
  have v135 : FVec Ideal S32x1024 .f32 := extractStridedSlice S32x1024 ![32, 0] v133 slices_S64x1024_o32_0_S32x1024
  have v138 : FVec Ideal S32x1024 .f32 := subf (mulf v134 v115) (mulf v135 v117)
  have v141 : FVec Ideal S32x1024 .f32 := addf (mulf v135 v115) (mulf v134 v117)
  truncf .bf16 (concatenate S64x1024 0 [⟨S32x1024, v138⟩, ⟨S32x1024, v141⟩] concatenates_S32x1024_S32x1024_S64x1024_d0) bitsLt_bf16_f32

theorem headOf_at (A B : FVec Ideal S64x1024 .f32) (C S : FVec Ideal S32x1024 .f32) (d : Fin 64) (r : Fin 1024) :
    headOf A B C S (ix2 d r)
      = rope (headNorm (fun e => A (ix2 e r)) (fun e => B (ix2 e r))) (fun j => C (ix2 j r)) (fun j => S (ix2 j r)) d := by
  pointwise [headOf, rope, headNorm, InSpec.inv]

theorem pay13_at (A B : FVec Ideal S1024x512 .f32) (g : FVec Ideal S1x512 .f32) (c s : FVec Ideal S1024x128 .f32) (n : Fin 384) :
    k0_pay13 (F := Ideal) A B g c s (ix1 n) = ∑ j : Fin 256, k0_pay11 (F := Ideal) A B g c s (ix2 ⟨j.val, by omega⟩ n) := by
  pointwise [k0_pay13]

theorem pay11_at (A B : FVec Ideal S1024x512 .f32) (g : FVec Ideal S1x512 .f32) (c s : FVec Ideal S1024x128 .f32) (r : Fin 1024) (n : Fin 384) :
    k0_pay11 (F := Ideal) A B g c s (ix2 r n) = k0_pay10 (F := Ideal) A B g c s (ix2 r ⟨n.val, by omega⟩) := by
  pointwise [k0_pay11]

theorem pay12_at (A B : FVec Ideal S1024x512 .f32) (g : FVec Ideal S1x512 .f32) (c s : FVec Ideal S1024x128 .f32) (r : Fin 1024) (n : Fin 384) :
    k0_pay12 (F := Ideal) A B g c s (ix2 r n) = k0_pay10 (F := Ideal) A B g c s (ix2 r ⟨n.val, by omega⟩) := by
  pointwise [k0_pay12, k0_pay11]

theorem pay15_at (A : FVec Ideal S1024x512 .f32) (r : Fin 1024) (n : Fin 128) :
    k0_pay15 (F := Ideal) A (ix2 r n) = A (ix2 r ⟨384 + n.val, by omega⟩) := by
  pointwise [k0_pay15]

theorem pay14_at (A : FVec Ideal S1024x384 .f32) (B : FVec Ideal S384 .f32) (hB : ∀ n, B (ix1 n) = ∑ j : Fin 256, A (ix2 ⟨j.val, by omega⟩ n)) (c : Fin 4) (n : Fin 384) :
    k0_pay14 (F := Ideal) A B (ix3 0 c n) = Ideal.div (∑ j : Fin 256, A (ix2 ⟨c.val * 256 + j.val, by omega⟩ n)) (Ideal.ofBits .f32 0x43800000#32) := by
  fin_cases c <;> pointwise [k0_pay14] <;> simp [hB]

theorem pay16_at (A : FVec Ideal S1024x1024 .f32) (r : Fin 1024) (n : Fin 512) :
    k0_pay16 (F := Ideal) A (ix2 r n) = A (ix2 r ⟨512 + n.val, by omega⟩) := by
  pointwise [k0_pay16]

variable (T : FVec Ideal S1800x1024 .f32)
theorem pay2_at (n : Fin 128) (r : Fin 1024) : k0_pay2 (F := Ideal) T (ix2 n r) = T (ix2 ⟨1152 + n.val, by omega⟩ r) := by pointwise [k0_pay2]
theorem pay3_at (n : Fin 256) (r : Fin 1024) : k0_pay3 (F := Ideal) T (ix2 n r) = T (ix2 ⟨1280 + n.val, by omega⟩ r) := by pointwise [k0_pay3]
theorem pay4_at (n : Fin 256) (r : Fin 1024) : k0_pay4 (F := Ideal) T (ix2 n r) = T (ix2 ⟨1536 + n.val, by omega⟩ r) := by pointwise [k0_pay4]
theorem pay33_at (n : Fin 384) (r : Fin 1024) : k0_pay33 (F := Ideal) T (ix2 n r) = T (ix2 ⟨768 + n.val, by omega⟩ r) := by pointwise [k0_pay33]

theorem lanes8_at (B : FVec Ideal S8x128 .f32) (n : Fin 8) (b : EReal) (h : ∀ l, B (ix2 n l) = b) (r : Fin 1024) :
    k0_pay5 (F := Ideal) T B (ix2 n r) = T (ix2 ⟨1792 + n.val, by omega⟩ r) + b := by
  pointwise [k0_pay5]
  simp only [h, dite_eq_ite, ite_self]

theorem pay20_at (g : FVec Ideal S128x128 .f32) (n : Fin 128) (b : EReal) (h : ∀ l, g (ix2 n l) = b) (r : Fin 1024) :
    k0_pay20 (F := Ideal) g (ix2 n r) = b := by
  pointwise [k0_pay20]
  simp only [h, dite_eq_ite, ite_self]

/-- The test of a lane lying in the first half of its head, as the kernel writes it. -/
def maskBit (n : ℕ) : BitVec 1 :=
  IntOp.cmpi CmpIPredicate.slt
    (Scalar.select
      (IntOp.andi
        (IntOp.xori
          (IntOp.cmpi CmpIPredicate.slt (IntOp.remsi ArithUnit.vector (BitVec.ofNat 32 n) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 n) (Scalar.select (Scalar.cmpi CmpIPredicate.eq 64#32 0#32) 1#32 64#32)) 0#32))
      (IntOp.addi (IntOp.remsi ArithUnit.vector (BitVec.ofNat 32 n) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 n) (Scalar.select (Scalar.cmpi CmpIPredicate.eq 64#32 0#32) 1#32 64#32)))
    32#32

theorem maskBit_eq : ∀ n : Fin 512, maskBit n.val = if n.val % 64 < 32 then 1#1 else 0#1 := by decide +kernel

theorem pick4 {α : Type} (f : Fin 128 → α) (n : ℕ) (hn : n < 512) :
    (if h1 : n < 128 then f ⟨n, h1⟩ else if h2 : n - 128 < 128 then f ⟨n - 128, h2⟩
      else if h3 : n - 128 - 128 < 128 then f ⟨n - 128 - 128, h3⟩ else f ⟨n - 128 - 128 - 128, by omega⟩) = f ⟨n % 128, Nat.mod_lt _ (by norm_num)⟩ := by
  split_ifs <;> exact congrArg f (Fin.ext (by simp only; omega))

theorem pay10_at (A R : FVec Ideal S1024x512 .f32) (g : FVec Ideal S1x512 .f32) (c s : FVec Ideal S1024x128 .f32) (r : Fin 1024)
    (C S : Fin 32 → EReal) (hc : ∀ l : Fin 128, c (ix2 r l) = C ⟨l.val % 32, by omega⟩)
    (hs : ∀ l : Fin 128, s (ix2 r l) = if l.val % 64 < 32 then -S ⟨l.val % 32, by omega⟩ else S ⟨l.val % 32, by omega⟩)
    (h : Fin 8) (d : Fin 64) :
    k0_pay10 (F := Ideal) A R g c s (ix2 r ⟨h.val * 64 + d.val, by omega⟩)
      = rope (fun e => A (ix2 r ⟨h.val * 64 + e.val, by omega⟩) * R (ix2 r ⟨h.val * 64 + e.val, by omega⟩) * g (ix2 0 ⟨h.val * 64 + e.val, by omega⟩)) C S d := by
  pointwise [k0_pay10]
  rw [pick4 (fun l => c (ix2 r l)) _ (by omega), pick4 (fun l => s (ix2 r l)) _ (by omega), hc, hs]
  change _ * _ + Scalar.select (maskBit (h.val * 64 + d.val)) _ _ * _ = _
  rw [maskBit_eq ⟨h.val * 64 + d.val, by omega⟩]
  unfold rope
  set q : Fin 512 → EReal := fun x => A (ix2 r x) * R (ix2 r x) * g (ix2 0 x) with hq
  have hd' := d.isLt
  have hh' := h.isLt
  by_cases hd : d.val < 32
  · rw [if_pos (by simp only; omega), dif_pos hd, if_pos (by simp only; omega), sub_eq_add_neg, ← mul_neg]
    exact congrArg₂ (· + ·) (congrArg₂ (· * ·) rfl (congrArg C (Fin.ext (by simp only; omega))))
      (congrArg₂ (· * ·) (congrArg q (Fin.ext (by simp only; omega))) (congrArg (-S ·) (Fin.ext (by simp only; omega))))
  · rw [if_neg (by simp only; omega), dif_neg hd, if_neg (by simp only; omega)]
    exact congrArg₂ (· + ·) (congrArg₂ (· * ·) (congrArg q (Fin.ext (by simp only; omega))) (congrArg C (Fin.ext (by simp only; omega))))
      (congrArg₂ (· * ·) (congrArg q (Fin.ext (by simp only; omega))) (congrArg S (Fin.ext (by simp only; omega))))

end Cert.InKer

end
-- ==== Proof.InRef.lean ====
/- The reference of the input projection, read index by index. -/
module

public import proofs.«01_k».proof.Proof.Gen.InProjRefIdeal
public import proofs.«01_k».proof.Proof.InSpec

@[expose] public section

set_option maxRecDepth 16384

noncomputable section

namespace Cert.InRef

open Cert.InProjRefIdeal Cert.InProjRefIdeal.Gen Cert.InSpec
open Idealize.ShloMosaic

/-- The projection of the normalised rows. -/
def projA (X : FVec Ideal S2x16384x1024 .f32) (G : FVec Ideal S1024 .f32) (W : FVec Ideal S1024x2824 .f32) : FVec Ideal S2x16384x2824 .f32 :=
  Host.dotGeneral dot_S2x16384x1024_S1024x2824_S2x16384x2824_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))) W

theorem projA_at (X : FVec Ideal S2x16384x1024 .f32) (G : FVec Ideal S1024 .f32) (W : FVec Ideal S1024x2824 .f32) (b : Fin 2) (s : Fin 16384) (n : Fin 2824) :
    projA X G W (ix3 b s n) = proj (fun k => X (ix3 b s k)) (fun k => G (ix1 k)) (fun k => W (ix2 k n)) := by
  pointwise [projA, proj, hn, InSpec.inv]

/-- Six heads normalised. -/
def norm6 (H : FVec Ideal S2x16384x6x64 .f32) (g : FVec Ideal S64 .f32) : FVec Ideal S2x16384x6x64 .f32 :=
  mulf (mulf H (broadcastInDim S2x16384x6x64 ![0, 1, 2, 3] bcast_S2x16384x6x1_S2x16384x6x64_0_1_2_3 (Host.rsqrt (addf (Host.divf (broadcastInDim S2x16384x6x1 ![0, 1, 2] bcast_S2x16384x6_S2x16384x6x1_0_1_2 (Host.reduceAdd (mulf H H) (constant S_ .f32 0x00000000#32) reducesTo_S2x16384x6x64_S2x16384x6_d3 h_S_)) (broadcastInDim S2x16384x6x1 ![] bcast_S_S2x16384x6x1 (constant S_ .f32 0x42800000#32))) (broadcastInDim S2x16384x6x1 ![] bcast_S_S2x16384x6x1 (constant S_ .f32 0x358637BD#32)))))) (broadcastInDim S2x16384x6x64 ![0, 1, 2, 3] bcast_S1x1x1x64_S2x16384x6x64_0_1_2_3 (broadcastInDim S1x1x1x64 ![3] bcast_S64_S1x1x1x64_3 g))

theorem norm6_at (H : FVec Ideal S2x16384x6x64 .f32) (g : FVec Ideal S64 .f32) (b : Fin 2) (s : Fin 16384) (h : Fin 6) (d : Fin 64) :
    norm6 H g (ix4 b s h d) = headNorm (fun e => H (ix4 b s h e)) (fun e => g (ix1 e)) d := by
  pointwise [norm6, headNorm, InSpec.inv]

/-- Two heads normalised. -/
def norm2 (H : FVec Ideal S2x16384x2x64 .f32) (g : FVec Ideal S64 .f32) : FVec Ideal S2x16384x2x64 .f32 :=
  mulf (mulf H (broadcastInDim S2x16384x2x64 ![0, 1, 2, 3] bcast_S2x16384x2x1_S2x16384x2x64_0_1_2_3 (Host.rsqrt (addf (Host.divf (broadcastInDim S2x16384x2x1 ![0, 1, 2] bcast_S2x16384x2_S2x16384x2x1_0_1_2 (Host.reduceAdd (mulf H H) (constant S_ .f32 0x00000000#32) reducesTo_S2x16384x2x64_S2x16384x2_d3 h_S_)) (broadcastInDim S2x16384x2x1 ![] bcast_S_S2x16384x2x1 (constant S_ .f32 0x42800000#32))) (broadcastInDim S2x16384x2x1 ![] bcast_S_S2x16384x2x1 (constant S_ .f32 0x358637BD#32)))))) (broadcastInDim S2x16384x2x64 ![0, 1, 2, 3] bcast_S1x1x1x64_S2x16384x2x64_0_1_2_3 (broadcastInDim S1x1x1x64 ![3] bcast_S64_S1x1x1x64_3 g))

theorem norm2_at (H : FVec Ideal S2x16384x2x64 .f32) (g : FVec Ideal S64 .f32) (b : Fin 2) (s : Fin 16384) (h : Fin 2) (d : Fin 64) :
    norm2 H g (ix4 b s h d) = headNorm (fun e => H (ix4 b s h e)) (fun e => g (ix1 e)) d := by
  pointwise [norm2, headNorm, InSpec.inv]

/-- Six heads rotated by the position's angles. -/
def rope6 (N : FVec Ideal S2x16384x6x64 .f32) (C S : FVec Ideal S16384x32 .f32) : FVec Ideal S2x16384x6x64 .f32 :=
  concatenate S2x16384x6x64 3 [⟨S2x16384x6x32, (subf (mulf (extractStridedSlice S2x16384x6x32 ![0, 0, 0, 0] N slices_S2x16384x6x64_S2x16384x6x32_0_0_0_0) (broadcastInDim S2x16384x6x32 ![0, 1, 2, 3] bcast_S1x16384x1x32_S2x16384x6x32_0_1_2_3 (broadcastInDim S1x16384x1x32 ![1, 2, 3] bcast_S16384x1x32_S1x16384x1x32_1_2_3 (broadcastInDim S16384x1x32 ![0, 2] bcast_S16384x32_S16384x1x32_0_2 C)))) (mulf (extractStridedSlice S2x16384x6x32 ![0, 0, 0, 32] N slices_S2x16384x6x64_S2x16384x6x32_0_0_0_32) (broadcastInDim S2x16384x6x32 ![0, 1, 2, 3] bcast_S1x16384x1x32_S2x16384x6x32_0_1_2_3 (broadcastInDim S1x16384x1x32 ![1, 2, 3] bcast_S16384x1x32_S1x16384x1x32_1_2_3 (broadcastInDim S16384x1x32 ![0, 2] bcast_S16384x32_S16384x1x32_0_2 S)))))⟩, ⟨S2x16384x6x32, (addf (mulf (extractStridedSlice S2x16384x6x32 ![0, 0, 0, 32] N slices_S2x16384x6x64_S2x16384x6x32_0_0_0_32) (broadcastInDim S2x16384x6x32 ![0, 1, 2, 3] bcast_S1x16384x1x32_S2x16384x6x32_0_1_2_3 (broadcastInDim S1x16384x1x32 ![1, 2, 3] bcast_S16384x1x32_S1x16384x1x32_1_2_3 (broadcastInDim S16384x1x32 ![0, 2] bcast_S16384x32_S16384x1x32_0_2 C)))) (mulf (extractStridedSlice S2x16384x6x32 ![0, 0, 0, 0] N slices_S2x16384x6x64_S2x16384x6x32_0_0_0_0) (broadcastInDim S2x16384x6x32 ![0, 1, 2, 3] bcast_S1x16384x1x32_S2x16384x6x32_0_1_2_3 (broadcastInDim S1x16384x1x32 ![1, 2, 3] bcast_S16384x1x32_S1x16384x1x32_1_2_3 (broadcastInDim S16384x1x32 ![0, 2] bcast_S16384x32_S16384x1x32_0_2 S)))))⟩] concatenates_S2x16384x6x32_S2x16384x6x32_S2x16384x6x64_d3

theorem rope6_at (N : FVec Ideal S2x16384x6x64 .f32) (C S : FVec Ideal S16384x32 .f32) (b : Fin 2) (s : Fin 16384) (h : Fin 6) (d : Fin 64) :
    rope6 N C S (ix4 b s h d) = rope (fun e => N (ix4 b s h e)) (fun e => C (ix2 s e)) (fun e => S (ix2 s e)) d := by
  pointwise [rope6, rope]

/-- Two heads rotated by the position's angles. -/
def rope2 (N : FVec Ideal S2x16384x2x64 .f32) (C S : FVec Ideal S16384x32 .f32) : FVec Ideal S2x16384x2x64 .f32 :=
  concatenate S2x16384x2x64 3 [⟨S2x16384x2x32, (subf (mulf (extractStridedSlice S2x16384x2x32 ![0, 0, 0, 0] N slices_S2x16384x2x64_S2x16384x2x32_0_0_0_0) (broadcastInDim S2x16384x2x32 ![0, 1, 2, 3] bcast_S1x16384x1x32_S2x16384x2x32_0_1_2_3 (broadcastInDim S1x16384x1x32 ![1, 2, 3] bcast_S16384x1x32_S1x16384x1x32_1_2_3 (broadcastInDim S16384x1x32 ![0, 2] bcast_S16384x32_S16384x1x32_0_2 C)))) (mulf (extractStridedSlice S2x16384x2x32 ![0, 0, 0, 32] N slices_S2x16384x2x64_S2x16384x2x32_0_0_0_32) (broadcastInDim S2x16384x2x32 ![0, 1, 2, 3] bcast_S1x16384x1x32_S2x16384x2x32_0_1_2_3 (broadcastInDim S1x16384x1x32 ![1, 2, 3] bcast_S16384x1x32_S1x16384x1x32_1_2_3 (broadcastInDim S16384x1x32 ![0, 2] bcast_S16384x32_S16384x1x32_0_2 S)))))⟩, ⟨S2x16384x2x32, (addf (mulf (extractStridedSlice S2x16384x2x32 ![0, 0, 0, 32] N slices_S2x16384x2x64_S2x16384x2x32_0_0_0_32) (broadcastInDim S2x16384x2x32 ![0, 1, 2, 3] bcast_S1x16384x1x32_S2x16384x2x32_0_1_2_3 (broadcastInDim S1x16384x1x32 ![1, 2, 3] bcast_S16384x1x32_S1x16384x1x32_1_2_3 (broadcastInDim S16384x1x32 ![0, 2] bcast_S16384x32_S16384x1x32_0_2 C)))) (mulf (extractStridedSlice S2x16384x2x32 ![0, 0, 0, 0] N slices_S2x16384x2x64_S2x16384x2x32_0_0_0_0) (broadcastInDim S2x16384x2x32 ![0, 1, 2, 3] bcast_S1x16384x1x32_S2x16384x2x32_0_1_2_3 (broadcastInDim S1x16384x1x32 ![1, 2, 3] bcast_S16384x1x32_S1x16384x1x32_1_2_3 (broadcastInDim S16384x1x32 ![0, 2] bcast_S16384x32_S16384x1x32_0_2 S)))))⟩] concatenates_S2x16384x2x32_S2x16384x2x32_S2x16384x2x64_d3

theorem rope2_at (N : FVec Ideal S2x16384x2x64 .f32) (C S : FVec Ideal S16384x32 .f32) (b : Fin 2) (s : Fin 16384) (h : Fin 2) (d : Fin 64) :
    rope2 N C S (ix4 b s h d) = rope (fun e => N (ix4 b s h e)) (fun e => C (ix2 s e)) (fun e => S (ix2 s e)) d := by
  pointwise [rope2, rope]

/-- The flattened row `R` is position `R % 16384` of batch `R / 16384`. -/
abbrev bOf (R : Fin 32768) : Fin 2 := ⟨R.val / 16384, by omega⟩
abbrev sOf (R : Fin 32768) : Fin 16384 := ⟨R.val % 16384, by omega⟩

/-- The six query heads of the block attention, cut out of the projection. -/
def cutMq (P : FVec Ideal S2x16384x2824 .f32) : FVec Ideal S2x16384x6x64 .f32 :=
  shapeCast _ (extractStridedSlice S2x16384x384 ![0, 0, 0] P slices_S2x16384x2824_S2x16384x384_0_0_0) shapeCasts_S2x16384x384_S2x16384x6x64
/-- The six key heads of the block attention. -/
def cutMk (P : FVec Ideal S2x16384x2824 .f32) : FVec Ideal S2x16384x6x64 .f32 :=
  shapeCast _ (extractStridedSlice S2x16384x384 ![0, 0, 384] P slices_S2x16384x2824_S2x16384x384_0_0_384) shapeCasts_S2x16384x384_S2x16384x6x64
/-- The six query heads of the window attention. -/
def cutSq (P : FVec Ideal S2x16384x2824 .f32) : FVec Ideal S2x16384x6x64 .f32 :=
  shapeCast _ (extractStridedSlice S2x16384x384 ![0, 0, 1152] P slices_S2x16384x2824_S2x16384x384_0_0_1152) shapeCasts_S2x16384x384_S2x16384x6x64
/-- The two key heads of the window attention. -/
def cutSk (P : FVec Ideal S2x16384x2824 .f32) : FVec Ideal S2x16384x2x64 .f32 :=
  shapeCast _ (extractStridedSlice S2x16384x128 ![0, 0, 1536] P slices_S2x16384x2824_S2x16384x128_0_0_1536) shapeCasts_S2x16384x128_S2x16384x2x64

variable (P : FVec Ideal S2x16384x2824 .f32) (b : Fin 2) (s : Fin 16384)

theorem cutMq_at (h : Fin 6) (d : Fin 64) : cutMq P (ix4 b s h d) = P (ix3 b s ⟨h.val * 64 + d.val, by omega⟩) := by pointwise [cutMq]
theorem cutMk_at (h : Fin 6) (d : Fin 64) : cutMk P (ix4 b s h d) = P (ix3 b s ⟨384 + (h.val * 64 + d.val), by omega⟩) := by pointwise [cutMk]
theorem cutSq_at (h : Fin 6) (d : Fin 64) : cutSq P (ix4 b s h d) = P (ix3 b s ⟨1152 + (h.val * 64 + d.val), by omega⟩) := by pointwise [cutSq]
theorem cutSk_at (h : Fin 2) (d : Fin 64) : cutSk P (ix4 b s h d) = P (ix3 b s ⟨1536 + (h.val * 64 + d.val), by omega⟩) := by pointwise [cutSk]

variable (R : Fin 32768)

theorem rows6_at (K : FVec Ideal S2x16384x6x64 .f32) (h : Fin 6) (d : Fin 64) :
    truncf .bf16 (shapeCast S32768x384 K shapeCasts_S2x16384x6x64_S32768x384) bitsLt_bf16_f32 (ix2 R ⟨h.val * 64 + d.val, by omega⟩)
      = K (ix4 (bOf R) (sOf R) h d) := by pointwise

theorem rows2_at (K : FVec Ideal S2x16384x2x64 .f32) (h : Fin 2) (d : Fin 64) :
    truncf .bf16 (shapeCast S32768x128 K shapeCasts_S2x16384x2x64_S32768x128) bitsLt_bf16_f32 (ix2 R ⟨h.val * 64 + d.val, by omega⟩)
      = K (ix4 (bOf R) (sOf R) h d) := by pointwise

theorem cols6_at (K : FVec Ideal S2x16384x6x64 .f32) (h : Fin 6) (d : Fin 64) :
    truncf .bf16 (transpose S384x32768 [1, 0] (shapeCast S32768x384 K shapeCasts_S2x16384x6x64_S32768x384) transposes_S32768x384_S384x32768_1_0) bitsLt_bf16_f32
      (ix2 ⟨h.val * 64 + d.val, by omega⟩ R) = K (ix4 (bOf R) (sOf R) h d) := by pointwise

theorem mean_at (K : FVec Ideal S2x16384x6x64 .f32) (i : Fin 32) (c : Fin 4) (h : Fin 6) (d : Fin 64) :
    Host.divf (Host.reduceAdd (shapeCast S32x4x256x384 K shapeCasts_S2x16384x6x64_S32x4x256x384) (constant S_ .f32 0x00000000#32) reducesTo_S32x4x256x384_S32x4x384_d2 h_S_) (broadcastInDim S32x4x384 ![] bcast_S_S32x4x384 (constant S_ .f32 0x43800000#32))
      (ix3 i c ⟨h.val * 64 + d.val, by omega⟩)
      = Ideal.div (∑ j : Fin 256, K (ix4 ⟨i.val / 16, by omega⟩ ⟨i.val % 16 * 1024 + c.val * 256 + j.val, by omega⟩ h d)) (Ideal.ofBits .f32 0x43800000#32) := by
  pointwise

theorem xqk_at (n : Fin 512) :
    truncf .bf16 (shapeCast S32768x512 (extractStridedSlice S2x16384x512 ![0, 0, 1792] P slices_S2x16384x2824_S2x16384x512_0_0_1792) shapeCasts_S2x16384x512_S32768x512) bitsLt_bf16_f32 (ix2 R n)
      = P (ix3 (bOf R) (sOf R) ⟨1792 + n.val, by omega⟩) := by pointwise

theorem sv_at (n : Fin 128) :
    truncf .bf16 (transpose S128x32768 [1, 0] (shapeCast S32768x128 (extractStridedSlice S2x16384x128 ![0, 0, 1664] P slices_S2x16384x2824_S2x16384x128_0_0_1664) shapeCasts_S2x16384x128_S32768x128) transposes_S32768x128_S128x32768_1_0) bitsLt_bf16_f32 (ix2 n R)
      = P (ix3 (bOf R) (sOf R) ⟨1664 + n.val, by omega⟩) := by pointwise

theorem xv_at (n : Fin 256) :
    truncf .bf16 (transpose S256x32768 [1, 0] (shapeCast S32768x256 (extractStridedSlice S2x16384x256 ![0, 0, 2304] P slices_S2x16384x2824_S2x16384x256_0_0_2304) shapeCasts_S2x16384x256_S32768x256) transposes_S32768x256_S256x32768_1_0) bitsLt_bf16_f32 (ix2 n R)
      = P (ix3 (bOf R) (sOf R) ⟨2304 + n.val, by omega⟩) := by pointwise

theorem xo_at (n : Fin 256) :
    truncf .bf16 (transpose S256x32768 [1, 0] (shapeCast S32768x256 (extractStridedSlice S2x16384x256 ![0, 0, 2560] P slices_S2x16384x2824_S2x16384x256_0_0_2560) shapeCasts_S2x16384x256_S32768x256) transposes_S32768x256_S256x32768_1_0) bitsLt_bf16_f32 (ix2 n R)
      = P (ix3 (bOf R) (sOf R) ⟨2560 + n.val, by omega⟩) := by pointwise

theorem mv_at (i : Fin 128) (h : Fin 6) (d : Fin 80) (j : Fin 256) :
    truncf .bf16 (shapeCast S128x480x256 (concatenate S128x6x80x256 2 [⟨S128x6x64x256, (transpose S128x6x64x256 [0, 2, 3, 1] (shapeCast S128x256x6x64 (shapeCast S2x16384x6x64 (extractStridedSlice S2x16384x384 ![0, 0, 768] P slices_S2x16384x2824_S2x16384x384_0_0_768) shapeCasts_S2x16384x384_S2x16384x6x64) shapeCasts_S2x16384x6x64_S128x256x6x64) transposes_S128x256x6x64_S128x6x64x256_0_2_3_1)⟩, ⟨S128x6x16x256, (broadcastInDim S128x6x16x256 ![] bcast_S_S128x6x16x256 (constant S_ .f32 0x3F800000#32))⟩] concatenates_S128x6x64x256_S128x6x16x256_S128x6x80x256_d2) shapeCasts_S128x6x80x256_S128x480x256) bitsLt_bf16_f32
      (ix3 i ⟨h.val * 80 + d.val, by omega⟩ j)
      = if hd : d.val < 64 then P (ix3 ⟨i.val / 64, by omega⟩ ⟨i.val % 64 * 256 + j.val, by omega⟩ ⟨768 + (h.val * 64 + d.val), by omega⟩)
        else 1 := by
  pointwise

theorem gates_at (bi bf : FVec Ideal S4 .f32) (n : Fin 8) :
    transpose S8x32768 [1, 0] (shapeCast S32768x8 (concatenate S2x16384x8 2 [⟨S2x16384x4, (addf (extractStridedSlice S2x16384x4 ![0, 0, 2816] P slices_S2x16384x2824_S2x16384x4_0_0_2816) (broadcastInDim S2x16384x4 ![0, 1, 2] bcast_S1x1x4_S2x16384x4_0_1_2 (broadcastInDim S1x1x4 ![2] bcast_S4_S1x1x4_2 bi)))⟩, ⟨S2x16384x4, (addf (extractStridedSlice S2x16384x4 ![0, 0, 2820] P slices_S2x16384x2824_S2x16384x4_0_0_2820) (broadcastInDim S2x16384x4 ![0, 1, 2] bcast_S1x1x4_S2x16384x4_0_1_2 (broadcastInDim S1x1x4 ![2] bcast_S4_S1x1x4_2 bf)))⟩] concatenates_S2x16384x4_S2x16384x4_S2x16384x8_d2) shapeCasts_S2x16384x8_S32768x8) transposes_S32768x8_S8x32768_1_0
      (ix2 n R) = (if hn : n.val < 4 then P (ix3 (bOf R) (sOf R) ⟨2816 + n.val, by omega⟩) + bi (ix1 ⟨n.val, hn⟩)
        else P (ix3 (bOf R) (sOf R) ⟨2820 + (n.val - 4), by omega⟩) + bf (ix1 ⟨n.val - 4, by omega⟩)) := by
  pointwise

end Cert.InRef

end
-- ==== Proof.InBlk.lean ====
/- The arrays the input projection's host operations build, and the blocks its kernel reads of them. -/
module

public import proofs.«01_k».proof.Proof.InFrame
public import proofs.«01_k».proof.Proof.InKer
public import proofs.«01_k».proof.Proof.InRef
public import Idealize.ShloMosaic.Lib.IdealHost

@[expose] public section

set_option maxRecDepth 16384
set_option maxHeartbeats 1000000

noncomputable section

namespace Cert.InVal

open Cert.InProjIdeal Cert.InProjIdeal.Gen Idealize.ShloMosaic Idealize.ShloMosaic.TcCoe
open Cert.InRef (bOf sOf)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 16, 0]
    ∧ win0_7.index t = ![t.val % 16, 0] ∧ win0_8.index t = ![0, 0] ∧ win0_9.index t = ![0, t.val % 16] ∧ win0_10.index t = ![0, t.val % 16]
    ∧ win0_11.index t = ![0, 0] :=
  (by decide +kernel : ∀ t : Fin grid0.N, _)

theorem idxOut : ∀ t : Fin cfg0.N, win0_12.index t = ![t.val, 0] ∧ win0_13.index t = ![t.val, 0, 0] ∧ win0_14.index t = ![t.val, 0]
    ∧ win0_15.index t = ![t.val, 0] ∧ win0_16.index t = ![0, t.val] ∧ win0_17.index t = ![0, t.val] ∧ win0_18.index t = ![t.val, 0, 0]
    ∧ win0_19.index t = ![0, t.val] ∧ win0_20.index t = ![0, t.val] ∧ win0_21.index t = ![0, t.val] ∧ win0_22.index t = ![0, t.val] :=
  (by decide +kernel : ∀ t : Fin grid0.N, _)

theorem lt_step (t : Fin cfg0.N) : t.val < 32 := lt_of_lt_of_eq t.isLt N_0

/-- Row `r` of step `t`'s block, as a row of the flattened arrays. -/
def row (t : Fin cfg0.N) (r : Fin 1024) : Fin 32768 := ⟨t.val * 1024 + r.val, by have := lt_step t; omega⟩

/-- The projection's column of each column of the row-wise weights. -/
def natCol (n : ℕ) : ℕ := if n < 384 then 384 + n else if n < 512 then 1536 + (n - 384) else 1792 + (n - 512)
/-- The projection's column of each row of the transposed weights. -/
def trCol (n : ℕ) : ℕ :=
  if n < 384 then n else if n < 768 then 1152 + (n - 384) else if n < 1152 then 768 + (n - 768) else if n < 1280 then 1664 + (n - 1152)
  else if n < 1536 then 2304 + (n - 1280) else if n < 1792 then 2560 + (n - 1536) else 2816 + (n - 1792)

theorem natCol_lt (n : Fin 1024) : natCol n.val < 2824 := by unfold natCol; split_ifs <;> omega
theorem trCol_lt (n : Fin 1800) : trCol n.val < 2824 := by unfold trCol; split_ifs <;> omega

/-- The weights of the row-wise product. -/
def wnat (W : FVec Ideal S1024x2824 .f32) : FVec Ideal S1024x1024 .bf16 :=
  truncf .bf16 (concatenate S1024x1024 1 [⟨S1024x384, (extractStridedSlice S1024x384 ![0, 384] W slices_S1024x2824_S1024x384_0_384)⟩,
    ⟨S1024x128, (extractStridedSlice S1024x128 ![0, 1536] W slices_S1024x2824_S1024x128_0_1536)⟩,
    ⟨S1024x512, (extractStridedSlice S1024x512 ![0, 1792] W slices_S1024x2824_S1024x512_0_1792)⟩] concatenates_S1024x384_S1024x128_S1024x512_S1024x1024_d1 : FVec Ideal S1024x1024 .f32) bitsLt_bf16_f32

/-- The weights of the transposed product. -/
def wtr (W : FVec Ideal S1024x2824 .f32) : FVec Ideal S1800x1024 .bf16 :=
  truncf .bf16 (transpose S1800x1024 [1, 0] (concatenate S1024x1800 1 [⟨S1024x384, (extractStridedSlice S1024x384 ![0, 0] W slices_S1024x2824_S1024x384_0_0)⟩,
    ⟨S1024x384, (extractStridedSlice S1024x384 ![0, 1152] W slices_S1024x2824_S1024x384_0_1152)⟩,
    ⟨S1024x384, (extractStridedSlice S1024x384 ![0, 768] W slices_S1024x2824_S1024x384_0_768)⟩,
    ⟨S1024x128, (extractStridedSlice S1024x128 ![0, 1664] W slices_S1024x2824_S1024x128_0_1664)⟩,
    ⟨S1024x256, (extractStridedSlice S1024x256 ![0, 2304] W slices_S1024x2824_S1024x256_0_2304)⟩,
    ⟨S1024x256, (extractStridedSlice S1024x256 ![0, 2560] W slices_S1024x2824_S1024x256_0_2560)⟩,
    ⟨S1024x4, (extractStridedSlice S1024x4 ![0, 2816] W slices_S1024x2824_S1024x4_0_2816)⟩,
    ⟨S1024x4, (extractStridedSlice S1024x4 ![0, 2820] W slices_S1024x2824_S1024x4_0_2820)⟩]
    concatenates_S1024x384_S1024x384_S1024x384_S1024x128_S1024x256_S1024x256_S1024x4_S1024x4_S1024x1800_d1 : FVec Ideal S1024x1800 .f32) transposes_S1024x1800_S1800x1024_1_0) bitsLt_bf16_f32

theorem wnat_at (W : FVec Ideal S1024x2824 .f32) (k n : Fin 1024) : wnat W (ix2 k n) = W (ix2 k ⟨natCol n.val, natCol_lt n⟩) := by
  pointwise [wnat]
  split_ifs <;> exact congrArg (fun z => W (ix2 k z)) (Fin.ext (by simp only [natCol]; split_ifs <;> omega))

theorem wtr_at (W : FVec Ideal S1024x2824 .f32) (n : Fin 1800) (k : Fin 1024) : wtr W (ix2 n k) = W (ix2 k ⟨trCol n.val, trCol_lt n⟩) := by
  pointwise [wtr]
  split_ifs <;> exact congrArg (fun z => W (ix2 k z)) (Fin.ext (by simp only [trCol]; split_ifs <;> omega))

/-- The head number of each of the 256 lanes, as the host's floor division gives it. -/
def laneHead : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

theorem laneHead_at : ∀ x : Fin 256, laneHead (ix1 x) = BitVec.ofNat 32 (x.val / 64) := by decide +kernel

/-- The matrix that averages each head's 64 lanes. -/
def bd : FVec Ideal S256x256 .bf16 :=
  truncf .bf16 (select (cmpi .eq (broadcastInDim S256x256 ![0, 1] bcast_S256x1_S256x256_0_1 (broadcastInDim S256x1 ![0] bcast_S256_S256x1_0 laneHead))
      (broadcastInDim S256x256 ![0, 1] bcast_S1x256_S256x256_0_1 (broadcastInDim S1x256 ![1] bcast_S256_S1x256_1 laneHead)))
    (broadcastInDim S256x256 ![] bcast_S_S256x256 (constant S_ .f32 0x3C800000#32)) (broadcastInDim S256x256 ![] bcast_S_S256x256 (constant S_ .f32 0x00000000#32)) : FVec Ideal S256x256 .f32) bitsLt_bf16_f32

theorem bd_at (x y : Fin 256) : bd (ix2 x y) = if x.val / 64 = y.val / 64 then Ideal.ofBits .f32 0x3C800000#32 else 0 := by
  pointwise [bd]
  rw [laneHead_at, laneHead_at]
  have e : (BitVec.ofNat 32 (x.val / 64) = BitVec.ofNat 32 (y.val / 64)) ↔ x.val / 64 = y.val / 64 := by
    constructor
    · intro h; have := congrArg BitVec.toNat h; simp only [BitVec.toNat_ofNat] at this; omega
    · intro h; rw [h]
  by_cases h : x.val / 64 = y.val / 64
  · rw [if_pos h, h]; simp [IntOp.cmpi, Scalar.select]
  · rw [if_neg h]; simp [IntOp.cmpi, Scalar.select, beq_eq_false_iff_ne.mpr (mt e.1 h)]

/-- The keys' gains over the 512 lanes. -/
def gk (a b : FVec Ideal S64 .f32) : FVec Ideal S1x512 .f32 :=
  broadcastInDim S1x512 ![1] bcast_S512_S1x512_1 (concatenate S512 0
    [⟨S384, (shapeCast S384 (broadcastInDim S6x64 ![0, 1] bcast_S1x64_S6x64_0_1 (shapeCast S1x64 a shapeCasts_S64_S1x64)) shapeCasts_S6x64_S384)⟩,
     ⟨S128, (shapeCast S128 (broadcastInDim S2x64 ![0, 1] bcast_S1x64_S2x64_0_1 (shapeCast S1x64 b shapeCasts_S64_S1x64)) shapeCasts_S2x64_S128)⟩] concatenates_S384_S128_S512_d0)

theorem gk_at (a b : FVec Ideal S64 .f32) (h : Fin 8) (d : Fin 64) :
    gk a b (ix2 0 ⟨h.val * 64 + d.val, by omega⟩) = if h.val < 6 then a (ix1 d) else b (ix1 d) := by
  pointwise [gk]
  by_cases hh : h.val < 6
  · rw [dif_pos (by omega), if_pos hh]
  · rw [dif_neg (by omega), if_neg hh]
    exact congrArg (fun z => b (ix1 z)) (Fin.ext (by simp only; omega))

/-- The queries' gains over the 128 rows. -/
def gq (a b : FVec Ideal S64 .f32) : FVec Ideal S128x128 .f32 :=
  broadcastInDim S128x128 ![0, 1] bcast_S128x1_S128x128_0_1 (broadcastInDim S128x1 ![0] bcast_S128_S128x1_0
    (concatenate S128 0 [⟨S64, a⟩, ⟨S64, b⟩] concatenates_S64_S64_S128_d0))

theorem gq_at (a b : FVec Ideal S64 .f32) (d l : Fin 128) :
    gq a b (ix2 d l) = if h : d.val < 64 then a (ix1 ⟨d.val, h⟩) else b (ix1 ⟨d.val - 64, by omega⟩) := by
  pointwise [gq]

/-- The gates' biases over the 8 rows. -/
def gb (a b : FVec Ideal S4 .f32) : FVec Ideal S8x128 .f32 :=
  broadcastInDim S8x128 ![0, 1] bcast_S8x1_S8x128_0_1 (broadcastInDim S8x1 ![0] bcast_S8_S8x1_0
    (concatenate S8 0 [⟨S4, a⟩, ⟨S4, b⟩] concatenates_S4_S4_S8_d0))

theorem gb_at (a b : FVec Ideal S4 .f32) (d : Fin 8) (l : Fin 128) :
    gb a b (ix2 d l) = if h : d.val < 4 then a (ix1 ⟨d.val, h⟩) else b (ix1 ⟨d.val - 4, by omega⟩) := by
  pointwise [gb]

theorem pick32 {α : Type} (f g : Fin 32 → α) (n : ℕ) (hn : n < 128) :
    (if h1 : n < 32 then f ⟨n, h1⟩ else if h2 : n - 32 < 32 then g ⟨n - 32, h2⟩
      else if h3 : n - 32 - 32 < 32 then f ⟨n - 32 - 32, h3⟩ else g ⟨n - 32 - 32 - 32, by omega⟩)
      = if n % 64 < 32 then f ⟨n % 32, Nat.mod_lt _ (by norm_num)⟩ else g ⟨n % 32, Nat.mod_lt _ (by norm_num)⟩ := by
  split_ifs <;> first
    | exact congrArg f (Fin.ext (by simp only; omega))
    | exact congrArg g (Fin.ext (by simp only; omega))
    | omega

/-- The cosines over the 128 lanes. -/
def cosn (a : FVec Ideal S16384x32 .f32) : FVec Ideal S16384x128 .f32 :=
  concatenate S16384x128 1 [⟨S16384x32, a⟩, ⟨S16384x32, a⟩, ⟨S16384x32, a⟩, ⟨S16384x32, a⟩] concatenates_S16384x32_S16384x32_S16384x32_S16384x32_S16384x128_d1
/-- The sines over the 128 lanes, negated on the first half of each head. -/
def sinn (a : FVec Ideal S16384x32 .f32) : FVec Ideal S16384x128 .f32 :=
  concatenate S16384x128 1 [⟨S16384x32, (Host.negf a : FVec Ideal S16384x32 .f32)⟩, ⟨S16384x32, a⟩, ⟨S16384x32, (Host.negf a : FVec Ideal S16384x32 .f32)⟩, ⟨S16384x32, a⟩] concatenates_S16384x32_S16384x32_S16384x32_S16384x32_S16384x128_d1

theorem cosn_at (a : FVec Ideal S16384x32 .f32) (s : Fin 16384) (l : Fin 128) : cosn a (ix2 s l) = a (ix2 s ⟨l.val % 32, by omega⟩) := by
  pointwise [cosn]
  split_ifs <;> exact congrArg (fun z => a (ix2 s z)) (Fin.ext (by simp only; omega))

theorem sinn_at (a : FVec Ideal S16384x32 .f32) (s : Fin 16384) (l : Fin 128) :
    sinn a (ix2 s l) = if l.val % 64 < 32 then -a (ix2 s ⟨l.val % 32, by omega⟩) else a (ix2 s ⟨l.val % 32, by omega⟩) := by
  pointwise [sinn]
  exact pick32 (fun z => -a (ix2 s z)) (fun z => a (ix2 s z)) l.val l.isLt

variable (m : (ℓ : Loc nD τ sig) → Buf (Elt Ideal) ℓ) (c : Dev nD)

abbrev A0 : FVec Ideal S2x16384x1024 .f32 := m ((c : Thread nD τ).loc main_arg0)
abbrev A1 : FVec Ideal S1024 .f32 := m ((c : Thread nD τ).loc main_arg1)
abbrev A2 : FVec Ideal S1024x2824 .f32 := m ((c : Thread nD τ).loc main_arg2)
abbrev A3 : FVec Ideal S4 .f32 := m ((c : Thread nD τ).loc main_arg3)
abbrev A4 : FVec Ideal S4 .f32 := m ((c : Thread nD τ).loc main_arg4)
abbrev A5 : FVec Ideal S64 .f32 := m ((c : Thread nD τ).loc main_arg5)
abbrev A6 : FVec Ideal S64 .f32 := m ((c : Thread nD τ).loc main_arg6)
abbrev A7 : FVec Ideal S64 .f32 := m ((c : Thread nD τ).loc main_arg7)
abbrev A8 : FVec Ideal S64 .f32 := m ((c : Thread nD τ).loc main_arg8)
abbrev A9 : FVec Ideal S16384x32 .f32 := m ((c : Thread nD τ).loc main_arg9)
abbrev A10 : FVec Ideal S16384x32 .f32 := m ((c : Thread nD τ).loc main_arg10)

theorem V_x : (V m c main_v43 : FVec Ideal S32768x1024 .f32) = shapeCast S32768x1024 (A0 m c) shapeCasts_S2x16384x1024_S32768x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_ln : (V m c main_v44 : FVec Ideal S1x1024 .f32) = broadcastInDim S1x1024 ![1] bcast_S1024_S1x1024_1 (A1 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_wnat : (V m c main_v25 : FVec Ideal S1024x1024 .bf16) = wnat (A2 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_wtr : (V m c main_v28 : FVec Ideal S1800x1024 .bf16) = wtr (A2 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_bd : (V m c main_v12 : FVec Ideal S256x256 .bf16) = bd := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_gk : (V m c main_v36 : FVec Ideal S1x512 .f32) = gk (A6 m c) (A8 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_cosn : (V m c main_v0 : FVec Ideal S16384x128 .f32) = cosn (A9 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_sinn : (V m c main_v3 : FVec Ideal S16384x128 .f32) = sinn (A10 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_gq : (V m c main_v39 : FVec Ideal S128x128 .f32) = gq (A5 m c) (A7 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_gb : (V m c main_v42 : FVec Ideal S8x128 .f32) = gb (A3 m c) (A4 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_cost : (V m c main_v45 : FVec Ideal S32x16384 .f32) = transpose S32x16384 [1, 0] (A9 m c) transposes_S16384x32_S32x16384_1_0 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl
theorem V_sint : (V m c main_v46 : FVec Ideal S32x16384 .f32) = transpose S32x16384 [1, 0] (A10 m c) transposes_S16384x32_S32x16384_1_0 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  all_goals rfl

end Cert.InVal

end
-- ==== Proof.InPt.lean ====
/- The blocks the input projection's kernel reads, and its products, as values of the arguments. -/
module

public import proofs.«01_k».proof.Proof.InBlk
public import Idealize.ShloMosaic.Lib.Pipeline.ValueKit

@[expose] public section

set_option maxRecDepth 16384
set_option maxHeartbeats 1000000

noncomputable section

namespace Cert.InVal

open Cert.InProjIdeal Cert.InProjIdeal.Gen Idealize.ShloMosaic Idealize.ShloMosaic.TcCoe
open Cert.InRef (bOf sOf)
open Cert.InSpec Cert.InKer

variable (m : (ℓ : Loc nD τ sig) → Buf (Elt Ideal) ℓ) (c : Dev nD) (t : Fin cfg0.N)

theorem rows_at (x : FVec Ideal S2x16384x1024 .f32) (R : Fin 32768) (k : Fin 1024) :
    shapeCast S32768x1024 x shapeCasts_S2x16384x1024_S32768x1024 (ix2 R k) = x (ix3 (bOf R) (sOf R) k) := by pointwise
theorem one_at (x : FVec Ideal S1024 .f32) (k : Fin 1024) : broadcastInDim S1x1024 ![1] bcast_S1024_S1x1024_1 x (ix2 0 k) = x (ix1 k) := by pointwise
theorem tr_apply (x : FVec Ideal S16384x32 .f32) (j : Fin 32) (s : Fin 16384) :
    transpose S32x16384 [1, 0] x transposes_S16384x32_S32x16384_1_0 (ix2 j s) = x (ix2 s j) := by pointwise

theorem blkX (r k : Fin 1024) : (iblk m c 0 t : Vec Ideal S1024x1024 .f32) (ix2 r k) = A0 m c (ix3 (bOf (row t r)) (sOf (row t r)) k) := by
  have h : (iblk m c 0 t : Vec Ideal S1024x1024 .f32) (ix2 r k) = (V m c main_v43 : FVec Ideal S32768x1024 .f32) (ix2 (row t r) k) := by
    unfold row; blk_point [iblk, idx t]
  rw [h, V_x, rows_at]
theorem blkLn (k : Fin 1024) : (iblk m c 1 t : Vec Ideal S1x1024 .f32) (ix2 0 k) = A1 m c (ix1 k) := by
  have h : (iblk m c 1 t : Vec Ideal S1x1024 .f32) (ix2 0 k) = (V m c main_v44 : FVec Ideal S1x1024 .f32) (ix2 0 k) := by
    blk_point [iblk, idx t]
  rw [h, V_ln, one_at]
theorem blkWn (k n : Fin 1024) : (iblk m c 2 t : Vec Ideal S1024x1024 .bf16) (ix2 k n) = A2 m c (ix2 k ⟨natCol n.val, natCol_lt n⟩) := by
  have h : (iblk m c 2 t : Vec Ideal S1024x1024 .bf16) (ix2 k n) = (V m c main_v25 : FVec Ideal S1024x1024 .bf16) (ix2 k n) := by
    blk_point [iblk, idx t]
  rw [h, V_wnat, wnat_at]
theorem blkWt (n : Fin 1800) (k : Fin 1024) : (iblk m c 3 t : Vec Ideal S1800x1024 .bf16) (ix2 n k) = A2 m c (ix2 k ⟨trCol n.val, trCol_lt n⟩) := by
  have h : (iblk m c 3 t : Vec Ideal S1800x1024 .bf16) (ix2 n k) = (V m c main_v28 : FVec Ideal S1800x1024 .bf16) (ix2 n k) := by
    blk_point [iblk, idx t]
  rw [h, V_wtr, wtr_at]
theorem blkBd (x y : Fin 256) : (iblk m c 4 t : Vec Ideal S256x256 .bf16) (ix2 x y) = if x.val / 64 = y.val / 64 then Ideal.ofBits .f32 0x3C800000#32 else 0 := by
  have h : (iblk m c 4 t : Vec Ideal S256x256 .bf16) (ix2 x y) = (V m c main_v12 : FVec Ideal S256x256 .bf16) (ix2 x y) := by
    blk_point [iblk, idx t]
  rw [h, V_bd, bd_at]
theorem blkGk (h : Fin 8) (d : Fin 64) : (iblk m c 5 t : Vec Ideal S1x512 .f32) (ix2 0 ⟨h.val * 64 + d.val, by omega⟩)
    = if h.val < 6 then A6 m c (ix1 d) else A8 m c (ix1 d) := by
  have e : (iblk m c 5 t : Vec Ideal S1x512 .f32) (ix2 0 ⟨h.val * 64 + d.val, by omega⟩) = (V m c main_v36 : FVec Ideal S1x512 .f32) (ix2 0 ⟨h.val * 64 + d.val, by omega⟩) := by
    blk_point [iblk, idx t]
  rw [e, V_gk, gk_at]
theorem blkCosn (r : Fin 1024) (l : Fin 128) : (iblk m c 6 t : Vec Ideal S1024x128 .f32) (ix2 r l) = A9 m c (ix2 (sOf (row t r)) ⟨l.val % 32, by omega⟩) := by
  have h : (iblk m c 6 t : Vec Ideal S1024x128 .f32) (ix2 r l) = (V m c main_v0 : FVec Ideal S16384x128 .f32) (ix2 (sOf (row t r)) l) := by
    unfold row sOf; blk_point [iblk, idx t]
  rw [h, V_cosn, cosn_at]
theorem blkSinn (r : Fin 1024) (l : Fin 128) : (iblk m c 7 t : Vec Ideal S1024x128 .f32) (ix2 r l)
    = if l.val % 64 < 32 then -A10 m c (ix2 (sOf (row t r)) ⟨l.val % 32, by omega⟩) else A10 m c (ix2 (sOf (row t r)) ⟨l.val % 32, by omega⟩) := by
  have h : (iblk m c 7 t : Vec Ideal S1024x128 .f32) (ix2 r l) = (V m c main_v3 : FVec Ideal S16384x128 .f32) (ix2 (sOf (row t r)) l) := by
    unfold row sOf; blk_point [iblk, idx t]
  rw [h, V_sinn, sinn_at]
theorem blkGq (d l : Fin 128) : (iblk m c 8 t : Vec Ideal S128x128 .f32) (ix2 d l)
    = if h : d.val < 64 then A5 m c (ix1 ⟨d.val, h⟩) else A7 m c (ix1 ⟨d.val - 64, by omega⟩) := by
  have h : (iblk m c 8 t : Vec Ideal S128x128 .f32) (ix2 d l) = (V m c main_v39 : FVec Ideal S128x128 .f32) (ix2 d l) := by
    blk_point [iblk, idx t]
  rw [h, V_gq, gq_at]
theorem blkCost (j : Fin 32) (r : Fin 1024) : (iblk m c 9 t : Vec Ideal S32x1024 .f32) (ix2 j r) = A9 m c (ix2 (sOf (row t r)) j) := by
  have h : (iblk m c 9 t : Vec Ideal S32x1024 .f32) (ix2 j r) = (V m c main_v45 : FVec Ideal S32x16384 .f32) (ix2 j (sOf (row t r))) := by
    unfold row sOf; blk_point [iblk, idx t]
  rw [h, V_cost, tr_apply]
theorem blkSint (j : Fin 32) (r : Fin 1024) : (iblk m c 10 t : Vec Ideal S32x1024 .f32) (ix2 j r) = A10 m c (ix2 (sOf (row t r)) j) := by
  have h : (iblk m c 10 t : Vec Ideal S32x1024 .f32) (ix2 j r) = (V m c main_v46 : FVec Ideal S32x16384 .f32) (ix2 j (sOf (row t r))) := by
    unfold row sOf; blk_point [iblk, idx t]
  rw [h, V_sint, tr_apply]
theorem blkGb (d : Fin 8) (l : Fin 128) : (iblk m c 11 t : Vec Ideal S8x128 .f32) (ix2 d l)
    = if h : d.val < 4 then A3 m c (ix1 ⟨d.val, h⟩) else A4 m c (ix1 ⟨d.val - 4, by omega⟩) := by
  have h : (iblk m c 11 t : Vec Ideal S8x128 .f32) (ix2 d l) = (V m c main_v42 : FVec Ideal S8x128 .f32) (ix2 d l) := by
    blk_point [iblk, idx t]
  rw [h, V_gb, gb_at]

/-- The projection of the arguments, as the reference computes it. -/
def P : FVec Ideal Cert.InProjRefIdeal.S2x16384x2824 .f32 := InRef.projA (A0 m c) (A1 m c) (A2 m c)

/-- The projection's entry at a flattened row. -/
def pr (R : Fin 32768) (n : Fin 2824) : EReal := P m c (ix3 (bOf R) (sOf R) n)

theorem nat_at (r n : Fin 1024) : k0_pay7 (F := Ideal) (iblk m c 0 t) (iblk m c 1 t) (iblk m c 2 t) (ix2 r n) = pr m c (row t r) ⟨natCol n.val, natCol_lt n⟩ := by
  rw [pay7_at]
  unfold pr P
  rw [InRef.projA_at]
  simp only [blkX, blkLn, blkWn]

theorem tr_at (n : Fin 1800) (r : Fin 1024) :
    k0_pay17 (F := Ideal) (k0_pay6 (F := Ideal) (iblk m c 0 t) (iblk m c 1 t)) (iblk m c 3 t) (ix2 n r) = pr m c (row t r) ⟨trCol n.val, trCol_lt n⟩ := by
  rw [pay17_at]
  unfold pr P
  rw [InRef.projA_at]
  simp only [blkX, blkLn, blkWt]

/-- The 512 lanes of the keys after normalisation and rotation. -/
abbrev kr : FVec Ideal S1024x512 .f32 :=
  k0_pay10 (F := Ideal) (k0_pay8 (F := Ideal) (iblk m c 0 t) (iblk m c 1 t) (iblk m c 2 t))
    (k0_pay9 (F := Ideal) (iblk m c 0 t) (iblk m c 1 t) (iblk m c 2 t) (iblk m c 4 t)) (iblk m c 5 t) (iblk m c 6 t) (iblk m c 7 t)

/-- The projection's entries are real. -/
def Reals : Prop := ∀ R n, ∃ y : ℝ, pr m c R n = (y : EReal)

/-- A head rotated at a flattened row. -/
def roped (R : Fin 32768) (f g : Fin 64 → EReal) (d : Fin 64) : EReal :=
  rope (headNorm f g) (fun j => A9 m c (ix2 (sOf R) j)) (fun j => A10 m c (ix2 (sOf R) j)) d

theorem kr_at (hR : Reals m c) (r : Fin 1024) (h : Fin 8) (d : Fin 64) :
    kr m c t (ix2 r ⟨h.val * 64 + d.val, by omega⟩)
      = roped m c (row t r) (fun e => pr m c (row t r) ⟨natCol (h.val * 64 + e.val), natCol_lt ⟨h.val * 64 + e.val, by omega⟩⟩)
          (fun e => if h.val < 6 then A6 m c (ix1 e) else A8 m c (ix1 e)) d := by
  have h8 : ∀ n : Fin 512, k0_pay8 (F := Ideal) (iblk m c 0 t) (iblk m c 1 t) (iblk m c 2 t) (ix2 r n)
      = pr m c (row t r) ⟨natCol n.val, natCol_lt ⟨n.val, by omega⟩⟩ := fun n => by rw [pay8_at, nat_at]
  unfold kr
  rw [pay10_at _ _ _ _ _ r (fun j => A9 m c (ix2 (sOf (row t r)) j)) (fun j => A10 m c (ix2 (sOf (row t r)) j))
    (fun l => blkCosn m c t r l) (fun l => blkSinn m c t r l) h d]
  unfold roped
  refine congrArg (fun q => rope q _ _ d) (funext fun e => ?_)
  rw [pay9_at _ _ _ _ r (fun n => by rw [h8]; exact hR _ _) (blkBd m c t) h e, blkGk]
  simp only [h8]
  rfl

end Cert.InVal

end
-- ==== Proof.InTile.lean ====
/- The input projection's blocks written piece by piece: the query heads and the values with their rows of ones. -/
module

public import proofs.«01_k».proof.Proof.InPt

@[expose] public section

set_option maxRecDepth 16384
set_option maxHeartbeats 2000000

noncomputable section

namespace Cert.InVal

open Cert.InProjIdeal Cert.InProjIdeal.Gen Idealize.ShloMosaic Idealize.ShloMosaic.TcCoe Idealize.ShloMosaic.Tactic
open Cert.InRef (bOf sOf)
open Cert.InSpec Cert.InKer

section
variable (T : FVec Ideal S1800x1024 .f32) (C S : FVec Ideal S32x1024 .f32) (G : FVec Ideal S128x1024 .f32) (g : Vec Ideal S128x128 .f32)
theorem pay21_head : k0_pay21 (F := Ideal) T C S g = headOf (extractStridedSlice S64x1024 ![0, 0] T slices_S1800x1024_o0_0_S64x1024)
    (extractStridedSlice S64x1024 ![0, 0] (k0_pay20 (F := Ideal) g) slices_S128x1024_o0_0_S64x1024) C S := rfl
theorem pay22_head : k0_pay22 (F := Ideal) T C S g = headOf (extractStridedSlice S64x1024 ![64, 0] T slices_S1800x1024_o64_0_S64x1024)
    (extractStridedSlice S64x1024 ![0, 0] (k0_pay20 (F := Ideal) g) slices_S128x1024_o0_0_S64x1024) C S := rfl
theorem pay23_head : k0_pay23 (F := Ideal) T C S G = headOf (extractStridedSlice S64x1024 ![128, 0] T slices_S1800x1024_o128_0_S64x1024)
    (extractStridedSlice S64x1024 ![0, 0] G slices_S128x1024_o0_0_S64x1024) C S := rfl
theorem pay24_head : k0_pay24 (F := Ideal) T C S G = headOf (extractStridedSlice S64x1024 ![192, 0] T slices_S1800x1024_o192_0_S64x1024)
    (extractStridedSlice S64x1024 ![0, 0] G slices_S128x1024_o0_0_S64x1024) C S := rfl
theorem pay25_head : k0_pay25 (F := Ideal) T C S G = headOf (extractStridedSlice S64x1024 ![256, 0] T slices_S1800x1024_o256_0_S64x1024)
    (extractStridedSlice S64x1024 ![0, 0] G slices_S128x1024_o0_0_S64x1024) C S := rfl
theorem pay26_head : k0_pay26 (F := Ideal) T C S G = headOf (extractStridedSlice S64x1024 ![320, 0] T slices_S1800x1024_o320_0_S64x1024)
    (extractStridedSlice S64x1024 ![0, 0] G slices_S128x1024_o0_0_S64x1024) C S := rfl
theorem pay27_head : k0_pay27 (F := Ideal) T C S G = headOf (extractStridedSlice S64x1024 ![384, 0] T slices_S1800x1024_o384_0_S64x1024)
    (extractStridedSlice S64x1024 ![64, 0] G slices_S128x1024_o64_0_S64x1024) C S := rfl
theorem pay28_head : k0_pay28 (F := Ideal) T C S G = headOf (extractStridedSlice S64x1024 ![448, 0] T slices_S1800x1024_o448_0_S64x1024)
    (extractStridedSlice S64x1024 ![64, 0] G slices_S128x1024_o64_0_S64x1024) C S := rfl
theorem pay29_head : k0_pay29 (F := Ideal) T C S G = headOf (extractStridedSlice S64x1024 ![512, 0] T slices_S1800x1024_o512_0_S64x1024)
    (extractStridedSlice S64x1024 ![64, 0] G slices_S128x1024_o64_0_S64x1024) C S := rfl
theorem pay30_head : k0_pay30 (F := Ideal) T C S G = headOf (extractStridedSlice S64x1024 ![576, 0] T slices_S1800x1024_o576_0_S64x1024)
    (extractStridedSlice S64x1024 ![64, 0] G slices_S128x1024_o64_0_S64x1024) C S := rfl
theorem pay31_head : k0_pay31 (F := Ideal) T C S G = headOf (extractStridedSlice S64x1024 ![640, 0] T slices_S1800x1024_o640_0_S64x1024)
    (extractStridedSlice S64x1024 ![64, 0] G slices_S128x1024_o64_0_S64x1024) C S := rfl
theorem pay32_head : k0_pay32 (F := Ideal) T C S G = headOf (extractStridedSlice S64x1024 ![704, 0] T slices_S1800x1024_o704_0_S64x1024)
    (extractStridedSlice S64x1024 ![64, 0] G slices_S128x1024_o64_0_S64x1024) C S := rfl

theorem head_eq (A B : FVec Ideal S64x1024 .f32) (f g : Fin 64 → EReal) (c s : Fin 32 → EReal) (d : Fin 64) (r : Fin 1024)
    (hA : ∀ e, A (ix2 e r) = f e) (hB : ∀ e, B (ix2 e r) = g e) (hC : ∀ j, C (ix2 j r) = c j) (hS : ∀ j, S (ix2 j r) = s j) :
    headOf A B C S (ix2 d r) = rope (headNorm f g) c s d := by
  rw [headOf_at]
  simp only [hA, hB, hC, hS]
end

theorem pay18_at (a : Vec Ideal S32x1024 .f32) (j : Fin 32) (r : Fin 1024) : k0_pay18 (F := Ideal) a (ix2 j r) = a (ix2 j r) := by pointwise [k0_pay18]
theorem pay19_at (a : Vec Ideal S32x1024 .f32) (j : Fin 32) (r : Fin 1024) : k0_pay19 (F := Ideal) a (ix2 j r) = a (ix2 j r) := by pointwise [k0_pay19]

theorem sliceT (T : FVec Ideal S1800x1024 .f32) (a : ℕ) (hs : S1800x1024.Slices ![a, 0] S64x1024) (ha : a + 64 ≤ 1800) (e : Fin 64) (r : Fin 1024) :
    extractStridedSlice S64x1024 ![a, 0] T hs (ix2 e r) = T (ix2 ⟨a + e.val, by omega⟩ r) := by
  pointwise
theorem sliceG (T : FVec Ideal S128x1024 .f32) (a : ℕ) (hs : S128x1024.Slices ![a, 0] S64x1024) (ha : a + 64 ≤ 128) (e : Fin 64) (r : Fin 1024) :
    extractStridedSlice S64x1024 ![a, 0] T hs (ix2 e r) = T (ix2 ⟨a + e.val, by omega⟩ r) := by
  pointwise

variable (m : (ℓ : Loc nD τ sig) → Buf (Elt Ideal) ℓ) (c : Dev nD) (t : Fin cfg0.N)

theorem gqRow (d : Fin 128) (r : Fin 1024) : k0_pay20 (F := Ideal) (iblk m c 8 t) (ix2 d r)
    = if h : d.val < 64 then A5 m c (ix1 ⟨d.val, h⟩) else A7 m c (ix1 ⟨d.val - 64, by omega⟩) :=
  pay20_at _ d _ (fun l => blkGq m c t d l) r

theorem mq_block (h : Fin 6) (d : Fin 64) (r : Fin 1024) :
    (outsAt0 m c t).2.2.2.2.1 (ix2 ⟨h.val * 64 + d.val, by omega⟩ r)
      = roped m c (row t r) (fun e => pr m c (row t r) ⟨h.val * 64 + e.val, by omega⟩) (fun e => A5 m c (ix1 e)) d := by
  have hh := h.isLt
  have hd := d.isLt
  unfold outsAt0
  frame_out
  canon_tiles y h
  all_goals
    obtain ⟨q, n', rfl⟩ : ∃ (q : Fin 64) (n' : Fin 1024), y = ix2 q n' := ⟨y 0, y 1, by blk_ext⟩
    simp only [ix2_0, ix2_1] at h0 h1
    have hq : q.val < 64 := q.isLt
    obtain rfl : d = q := Fin.ext (by omega)
    obtain rfl : r = n' := Fin.ext (by omega)
    first
      | rw [pay26_head] | rw [pay25_head] | rw [pay24_head] | rw [pay23_head] | rw [pay22_head] | rw [pay21_head]
    refine head_eq _ _ _ _ _ _ _ _ d r (fun e => ?_) (fun e => ?_) (fun j => ?_) (fun j => ?_)
    · rw [sliceT _ _ _ (by norm_num), tr_at]
      refine congrArg _ (Fin.ext ?_)
      simp only [trCol]
      split_ifs <;> omega
    · rw [sliceG _ _ _ (by norm_num), gqRow, dif_pos (by simp only; omega)]
      refine congrArg (fun z => A5 m c (ix1 z)) (Fin.ext ?_)
      simp only; omega
    · rw [pay18_at, blkCost]
    · rw [pay19_at, blkSint]

theorem sq_block (h : Fin 6) (d : Fin 64) (r : Fin 1024) :
    (outsAt0 m c t).2.2.2.2.2.1 (ix2 ⟨h.val * 64 + d.val, by omega⟩ r)
      = roped m c (row t r) (fun e => pr m c (row t r) ⟨1152 + (h.val * 64 + e.val), by omega⟩) (fun e => A7 m c (ix1 e)) d := by
  have hh := h.isLt
  have hd := d.isLt
  unfold outsAt0
  frame_out
  canon_tiles y h
  all_goals
    obtain ⟨q, n', rfl⟩ : ∃ (q : Fin 64) (n' : Fin 1024), y = ix2 q n' := ⟨y 0, y 1, by blk_ext⟩
    simp only [ix2_0, ix2_1] at h0 h1
    have hq : q.val < 64 := q.isLt
    obtain rfl : d = q := Fin.ext (by omega)
    obtain rfl : r = n' := Fin.ext (by omega)
    first
      | rw [pay32_head] | rw [pay31_head] | rw [pay30_head] | rw [pay29_head] | rw [pay28_head] | rw [pay27_head]
    refine head_eq _ _ _ _ _ _ _ _ d r (fun e => ?_) (fun e => ?_) (fun j => ?_) (fun j => ?_)
    · rw [sliceT _ _ _ (by norm_num), tr_at]
      refine congrArg _ (Fin.ext ?_)
      simp only [trCol]
      split_ifs <;> omega
    · rw [sliceG _ _ _ (by norm_num), gqRow, dif_neg (by simp only; omega)]
      refine congrArg (fun z => A7 m c (ix1 z)) (Fin.ext ?_)
      simp only; omega
    · rw [pay18_at, blkCost]
    · rw [pay19_at, blkSint]

end Cert.InVal

end
-- ==== Proof.InVals.lean ====
/- The input projection's blocks of the values with their rows of ones, written piece by piece. -/
module

public import proofs.«01_k».proof.Proof.InPt

@[expose] public section

set_option maxRecDepth 16384
set_option maxHeartbeats 2000000

noncomputable section

namespace Cert.InVal

open Cert.InProjIdeal Cert.InProjIdeal.Gen Idealize.ShloMosaic Idealize.ShloMosaic.TcCoe Idealize.ShloMosaic.Tactic
open Cert.InRef (bOf sOf)
open Cert.InSpec Cert.InKer

variable (m : (ℓ : Loc nD τ sig) → Buf (Elt Ideal) ℓ) (c : Dev nD) (t : Fin cfg0.N)

theorem vSlice_at (T : FVec Ideal S1800x1024 .f32) (a b : ℕ) (hs : S384x1024.Slices ![a, b] S64x256) (ha : a + 64 ≤ 384) (hb : b + 256 ≤ 1024)
    (q : Fin 64) (l : Fin 256) :
    shapeCast S1x64x256 (extractStridedSlice S64x256 ![a, b] (k0_pay33 (F := Ideal) T) hs) shapeCasts_S64x256_S1x64x256 (ix3 0 q l)
      = T (ix2 ⟨768 + (a + q.val), by omega⟩ ⟨b + l.val, by omega⟩) := by
  have e : shapeCast S1x64x256 (extractStridedSlice S64x256 ![a, b] (k0_pay33 (F := Ideal) T) hs) shapeCasts_S64x256_S1x64x256 (ix3 0 q l)
      = k0_pay33 (F := Ideal) T (ix2 ⟨a + q.val, by omega⟩ ⟨b + l.val, by omega⟩) := by pointwise
  rw [e, pay33_at]

theorem vOne_at (q : Fin 16) (l : Fin 256) :
    shapeCast S1x16x256 (k0_pay34 (F := Ideal)) shapeCasts_S16x256_S1x16x256 (ix3 0 q l) = 1 := by
  pointwise [k0_pay34]

theorem mv_block (j : Fin 4) (h : Fin 6) (d : Fin 80) (l : Fin 256) :
    (outsAt0 m c t).2.2.2.2.2.2.1 (ix3 j ⟨h.val * 80 + d.val, by omega⟩ l)
      = if d.val < 64 then k0_pay17 (F := Ideal) (k0_pay6 (F := Ideal) (iblk m c 0 t) (iblk m c 1 t)) (iblk m c 3 t)
          (ix2 ⟨768 + (h.val * 64 + d.val % 64), by omega⟩ ⟨j.val * 256 + l.val, by omega⟩) else 1 := by
  have hh := h.isLt
  have hd := d.isLt
  have hl := l.isLt
  unfold outsAt0
  frame_out
  canon_tiles y h using (View.cover_of_tiledBy _ ![1, 16, 256] (by sl_kernel_rfl) _)
  all_goals
    have hz : (y 0).val = 0 := by omega
    simp only [hz, ix3_0] at h0
    first
    | obtain ⟨q, n', rfl⟩ : ∃ (q : Fin 64) (n' : Fin 256), y = ix3 0 q n' := ⟨y 1, y 2, by blk_ext⟩
      simp only [ix3_1, ix3_2] at h1 h2
      have hq : q.val < 64 := q.isLt
      rw [if_pos (by omega)]
      refine Eq.trans (vSlice_at _ _ _ _ (by norm_num) (by norm_num) q n') ?_
      refine congrArg₂ (fun u w => k0_pay17 (F := Ideal) (k0_pay6 (F := Ideal) (iblk m c 0 t) (iblk m c 1 t)) (iblk m c 3 t) (ix2 u w)) (Fin.ext ?_) (Fin.ext ?_)
      · simp only; omega
      · simp only; omega
    | obtain ⟨q, n', rfl⟩ : ∃ (q : Fin 16) (n' : Fin 256), y = ix3 0 q n' := ⟨y 1, y 2, by blk_ext⟩
      simp only [ix3_1, ix3_2] at h1 h2
      have hq : q.val < 16 := q.isLt
      rw [if_neg (by omega)]
      exact vOne_at q n'

end Cert.InVal

end
-- ==== Proof.InReal.lean ====
/- Under the precondition the entries of the input projection are real numbers. -/
module

public import proofs.«01_k».proof.Proof.InPt
public import proofs.«01_k».proof.Proof.SwaPre
public import proofs.«01_k».proof.Proof.Gen.Pre_finite3

@[expose] public section

set_option maxRecDepth 16384
set_option maxHeartbeats 1000000

noncomputable section

namespace Cert.InVal

open Cert.InProjIdeal Cert.InProjIdeal.Gen Idealize.ShloMosaic Idealize.ShloMosaic.TcCoe
open Cert.InRef (bOf sOf)
open Cert.InSpec Cert.InKer

theorem width_eq : Ideal.ofBits .f32 0x44800000#32 = ((1024 : ℝ) : EReal) := by
  simp [Ideal.ofBits, Ideal.ieee, -EReal.coe_mul]; norm_num

theorem small_eq : ∃ e : ℝ, 0 < e ∧ Ideal.ofBits .f32 0x358637BD#32 = (e : EReal) := by
  refine ⟨(2 ^ 23 + 407485 : ℝ) * (2 ^ 43 : ℝ)⁻¹, by positivity, ?_⟩
  simp [Ideal.ofBits, Ideal.ieee, -EReal.coe_mul]; norm_num

/-- A row of real numbers against real gains and weights gives a real number. -/
theorem proj_real (x g w : Fin 1024 → EReal) (hx : ∀ k, ∃ y : ℝ, x k = (y : EReal)) (hg : ∀ k, ∃ y : ℝ, g k = (y : EReal))
    (hw : ∀ k, ∃ y : ℝ, w k = (y : EReal)) : ∃ y : ℝ, proj x g w = (y : EReal) := by
  choose a ha using hx
  choose b hb using hg
  choose d hd using hw
  obtain ⟨e, he, hs⟩ := small_eq
  have hpos : 0 < (∑ j, a j * a j) * (1 / 1024) + e :=
    add_pos_of_nonneg_of_pos (mul_nonneg (Finset.sum_nonneg fun j _ => mul_self_nonneg _) (by norm_num)) he
  have hi : inv (∑ j, x j * x j) (Ideal.ofBits .f32 0x44800000#32) = (((Real.sqrt ((∑ j, a j * a j) * (1 / 1024) + e))⁻¹ : ℝ) : EReal) := by
    unfold InSpec.inv
    rw [width_eq, hs, Ideal.div_coe (by norm_num)]
    have h1 : (∑ j, x j * x j) = ((∑ j, a j * a j : ℝ) : EReal) := by
      rw [SwaMath.coe_sum]
      simp only [ha, EReal.coe_mul]
    rw [h1, ← EReal.coe_mul, ← EReal.coe_add, Ideal.rsqrt_coe, if_neg (not_lt.mpr hpos.le), if_neg hpos.ne']
  refine ⟨∑ k, a k * (Real.sqrt ((∑ j, a j * a j) * (1 / 1024) + e))⁻¹ * b k * d k, ?_⟩
  unfold proj hn
  rw [hi, SwaMath.coe_sum]
  simp only [ha, hb, hd, EReal.coe_mul]

variable (m : (ℓ : Loc nD τ sig) → Buf (Elt Ideal) ℓ)

theorem reals_of_pre (h : Cert.Pre_InProjIdeal_finite3 m) (c : Dev nD) : Reals m c := by
  obtain ⟨h1, h2, h3⟩ := h c
  unfold Cert.Pre_finite3.fn at h1 h2 h3
  dsimp only at h1 h2 h3
  intro R n
  unfold pr P
  rw [InRef.projA_at]
  exact proj_real _ _ _ (fun k => Cert.Swa.real_of_finite _ _ (fun _ => Cert.Swa.inf_eq) _ (congrFun h1 (ix3 _ _ k)))
    (fun k => Cert.Swa.real_of_finite _ _ (fun _ => Cert.Swa.inf_eq) _ (congrFun h2 (ix1 k)))
    (fun k => Cert.Swa.real_of_finite _ _ (fun _ => Cert.Swa.inf_eq) _ (congrFun h3 (ix2 k n)))

end Cert.InVal

end
-- ==== Proof.InOut.lean ====
/- The eleven results of the input projection's reference, as functions of the projection and of the rotated heads. -/
module

public import proofs.«01_k».proof.Proof.InRef
public import proofs.«01_k».proof.Proof.Gen.InProjRefIdeal.Run

@[expose] public section

set_option maxRecDepth 16384
set_option maxHeartbeats 1000000

noncomputable section

namespace Cert.InRef

open Cert.InProjRefIdeal Cert.InProjRefIdeal.Gen Idealize.ShloMosaic Idealize.ShloMosaic.TcCoe

/-- Six heads as rows. -/
def rows6A (K : FVec Ideal S2x16384x6x64 .f32) : FVec Ideal S32768x384 .bf16 :=
  truncf .bf16 (shapeCast S32768x384 K shapeCasts_S2x16384x6x64_S32768x384) bitsLt_bf16_f32
/-- The means of blocks of 256 positions. -/
def meanA (K : FVec Ideal S2x16384x6x64 .f32) : FVec Ideal S32x4x384 .f32 :=
  Host.divf (Host.reduceAdd (shapeCast S32x4x256x384 K shapeCasts_S2x16384x6x64_S32x4x256x384) (constant S_ .f32 0x00000000#32) reducesTo_S32x4x256x384_S32x4x384_d2 h_S_) (broadcastInDim S32x4x384 ![] bcast_S_S32x4x384 (constant S_ .f32 0x43800000#32))
/-- Two heads as rows. -/
def rows2A (K : FVec Ideal S2x16384x2x64 .f32) : FVec Ideal S32768x128 .bf16 :=
  truncf .bf16 (shapeCast S32768x128 K shapeCasts_S2x16384x2x64_S32768x128) bitsLt_bf16_f32
/-- The recurrence's queries and keys as rows. -/
def xqkA (P : FVec Ideal S2x16384x2824 .f32) : FVec Ideal S32768x512 .bf16 :=
  truncf .bf16 (shapeCast S32768x512 (extractStridedSlice S2x16384x512 ![0, 0, 1792] P slices_S2x16384x2824_S2x16384x512_0_0_1792) shapeCasts_S2x16384x512_S32768x512) bitsLt_bf16_f32
/-- Six heads as columns. -/
def cols6A (K : FVec Ideal S2x16384x6x64 .f32) : FVec Ideal S384x32768 .bf16 :=
  truncf .bf16 (transpose S384x32768 [1, 0] (shapeCast S32768x384 K shapeCasts_S2x16384x6x64_S32768x384) transposes_S32768x384_S384x32768_1_0) bitsLt_bf16_f32
/-- The values of the block attention, with rows of ones. -/
def mvA (P : FVec Ideal S2x16384x2824 .f32) : FVec Ideal S128x480x256 .bf16 :=
  truncf .bf16 (shapeCast S128x480x256 (concatenate S128x6x80x256 2 [⟨S128x6x64x256, (transpose S128x6x64x256 [0, 2, 3, 1] (shapeCast S128x256x6x64 (shapeCast S2x16384x6x64 (extractStridedSlice S2x16384x384 ![0, 0, 768] P slices_S2x16384x2824_S2x16384x384_0_0_768) shapeCasts_S2x16384x384_S2x16384x6x64) shapeCasts_S2x16384x6x64_S128x256x6x64) transposes_S128x256x6x64_S128x6x64x256_0_2_3_1)⟩, ⟨S128x6x16x256, (broadcastInDim S128x6x16x256 ![] bcast_S_S128x6x16x256 (constant S_ .f32 0x3F800000#32))⟩] concatenates_S128x6x64x256_S128x6x16x256_S128x6x80x256_d2) shapeCasts_S128x6x80x256_S128x480x256) bitsLt_bf16_f32
/-- The values of the window attention. -/
def svA (P : FVec Ideal S2x16384x2824 .f32) : FVec Ideal S128x32768 .bf16 :=
  truncf .bf16 (transpose S128x32768 [1, 0] (shapeCast S32768x128 (extractStridedSlice S2x16384x128 ![0, 0, 1664] P slices_S2x16384x2824_S2x16384x128_0_0_1664) shapeCasts_S2x16384x128_S32768x128) transposes_S32768x128_S128x32768_1_0) bitsLt_bf16_f32
/-- The values of the recurrence. -/
def xvA (P : FVec Ideal S2x16384x2824 .f32) : FVec Ideal S256x32768 .bf16 :=
  truncf .bf16 (transpose S256x32768 [1, 0] (shapeCast S32768x256 (extractStridedSlice S2x16384x256 ![0, 0, 2304] P slices_S2x16384x2824_S2x16384x256_0_0_2304) shapeCasts_S2x16384x256_S32768x256) transposes_S32768x256_S256x32768_1_0) bitsLt_bf16_f32
/-- The output gates of the recurrence. -/
def xoA (P : FVec Ideal S2x16384x2824 .f32) : FVec Ideal S256x32768 .bf16 :=
  truncf .bf16 (transpose S256x32768 [1, 0] (shapeCast S32768x256 (extractStridedSlice S2x16384x256 ![0, 0, 2560] P slices_S2x16384x2824_S2x16384x256_0_0_2560) shapeCasts_S2x16384x256_S32768x256) transposes_S32768x256_S256x32768_1_0) bitsLt_bf16_f32
/-- The two gates of the recurrence. -/
def gatesA (P : FVec Ideal S2x16384x2824 .f32) (bi bf : FVec Ideal S4 .f32) : FVec Ideal S8x32768 .f32 :=
  transpose S8x32768 [1, 0] (shapeCast S32768x8 (concatenate S2x16384x8 2 [⟨S2x16384x4, (addf (extractStridedSlice S2x16384x4 ![0, 0, 2816] P slices_S2x16384x2824_S2x16384x4_0_0_2816) (broadcastInDim S2x16384x4 ![0, 1, 2] bcast_S1x1x4_S2x16384x4_0_1_2 (broadcastInDim S1x1x4 ![2] bcast_S4_S1x1x4_2 bi)))⟩, ⟨S2x16384x4, (addf (extractStridedSlice S2x16384x4 ![0, 0, 2820] P slices_S2x16384x2824_S2x16384x4_0_0_2820) (broadcastInDim S2x16384x4 ![0, 1, 2] bcast_S1x1x4_S2x16384x4_0_1_2 (broadcastInDim S1x1x4 ![2] bcast_S4_S1x1x4_2 bf)))⟩] concatenates_S2x16384x4_S2x16384x4_S2x16384x8_d2) shapeCasts_S2x16384x8_S32768x8) transposes_S32768x8_S8x32768_1_0

variable (m : (ℓ : Loc nD τ sig) → Buf (Elt Ideal) ℓ) (c : Dev nD)

abbrev a0 : FVec Ideal S2x16384x1024 .f32 := m ((c.tc : Thread nD τ).loc main_arg0)
abbrev a1 : FVec Ideal S1024 .f32 := m ((c.tc : Thread nD τ).loc main_arg1)
abbrev a2 : FVec Ideal S1024x2824 .f32 := m ((c.tc : Thread nD τ).loc main_arg2)
abbrev a3 : FVec Ideal S4 .f32 := m ((c.tc : Thread nD τ).loc main_arg3)
abbrev a4 : FVec Ideal S4 .f32 := m ((c.tc : Thread nD τ).loc main_arg4)
abbrev a5 : FVec Ideal S64 .f32 := m ((c.tc : Thread nD τ).loc main_arg5)
abbrev a6 : FVec Ideal S64 .f32 := m ((c.tc : Thread nD τ).loc main_arg6)
abbrev a7 : FVec Ideal S64 .f32 := m ((c.tc : Thread nD τ).loc main_arg7)
abbrev a8 : FVec Ideal S64 .f32 := m ((c.tc : Thread nD τ).loc main_arg8)
abbrev a9 : FVec Ideal S16384x32 .f32 := m ((c.tc : Thread nD τ).loc main_arg9)
abbrev a10 : FVec Ideal S16384x32 .f32 := m ((c.tc : Thread nD τ).loc main_arg10)

/-- The projection over the reference's arguments. -/
abbrev pj : FVec Ideal S2x16384x2824 .f32 := projA (a0 m c) (a1 m c) (a2 m c)

theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v174) = rows6A (rope6 (norm6 (cutMk (pj m c)) (a6 m c)) (a9 m c) (a10 m c))
      ∧ r.2.mem ((c.tc : Thread nD τ).loc main_v160) = meanA (rope6 (norm6 (cutMk (pj m c)) (a6 m c)) (a9 m c) (a10 m c))
      ∧ r.2.mem ((c.tc : Thread nD τ).loc main_v176) = rows2A (rope2 (norm2 (cutSk (pj m c)) (a8 m c)) (a9 m c) (a10 m c))
      ∧ r.2.mem ((c.tc : Thread nD τ).loc main_v178) = xqkA (pj m c)
      ∧ r.2.mem ((c.tc : Thread nD τ).loc main_v181) = cols6A (rope6 (norm6 (cutMq (pj m c)) (a5 m c)) (a9 m c) (a10 m c))
      ∧ r.2.mem ((c.tc : Thread nD τ).loc main_v184) = cols6A (rope6 (norm6 (cutSq (pj m c)) (a7 m c)) (a9 m c) (a10 m c))
      ∧ r.2.mem ((c.tc : Thread nD τ).loc main_v186) = mvA (pj m c)
      ∧ r.2.mem ((c.tc : Thread nD τ).loc main_v189) = svA (pj m c)
      ∧ r.2.mem ((c.tc : Thread nD τ).loc main_v192) = xvA (pj m c)
      ∧ r.2.mem ((c.tc : Thread nD τ).loc main_v195) = xoA (pj m c)
      ∧ r.2.mem ((c.tc : Thread nD τ).loc main_v197) = gatesA (pj m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => by
    obtain ⟨h0, h1, h2, h3, h4, h5, h6, h7, h8, h9, h10, ha⟩ := h c
    exact ⟨h0.trans rfl, h1.trans rfl, h2.trans rfl, h3.trans rfl, h4.trans rfl, h5.trans rfl, h6.trans rfl, h7.trans rfl,
      h8.trans rfl, h9.trans rfl, h10.trans rfl, ha⟩) (Cert.InProjRefIdeal.Value.run m ρ)

end Cert.InRef

end
-- ==== Proof.InValue.lean ====
/- The eleven results of the ideal input projection as the blocks its run writes. -/
module

public import proofs.«01_k».proof.Proof.InFrame
public import Idealize.ShloMosaic.Lib.Pipeline.Value

@[expose] public section

noncomputable section

namespace Cert.InProjIdeal.Value

open Cert.InProjIdeal Cert.InProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed12 (c : Dev nD) (t : Fin cfg0.N) :
    (dats m 0 c).flushed 12 t = (cfg0.win 12).cut (grid0.coords t) ((outsAt0 m c t).1) := by
  show (cfg0.win 12).cut (grid0.coords t) ((dats m 0 c).after 12 t) = _
  rw [after0_12]

theorem flushed12_A (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0]

theorem idx_inj12 : ∀ t t' : Fin cfg0.N, win0_12.index t = win0_12.index t' → t = t' :=
  (by decide +kernel : ∀ t t' : Fin grid0.N, win0_12.index t = win0_12.index t' → t = t')

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

theorem entry12 (c : Dev nD) (i : S32768x384.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

theorem flushed13 (c : Dev nD) (t : Fin cfg0.N) :
    (dats m 0 c).flushed 13 t = (cfg0.win 13).cut (grid0.coords t) ((outsAt0 m c t).2.1) := by
  show (cfg0.win 13).cut (grid0.coords t) ((dats m 0 c).after 13 t) = _
  rw [after0_13]

theorem flushed13_A (c : Dev nD) (t : Fin cfg0.N) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0]

theorem idx_inj13 : ∀ t t' : Fin cfg0.N, win0_13.index t = win0_13.index t' → t = t' :=
  (by decide +kernel : ∀ t t' : Fin grid0.N, win0_13.index t = win0_13.index t' → t = t')

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

theorem entry13 (c : Dev nD) (i : S32x4x384.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

theorem flushed14 (c : Dev nD) (t : Fin cfg0.N) :
    (dats m 0 c).flushed 14 t = (cfg0.win 14).cut (grid0.coords t) ((outsAt0 m c t).2.2.1) := by
  show (cfg0.win 14).cut (grid0.coords t) ((dats m 0 c).after 14 t) = _
  rw [after0_14]

theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

theorem entry14 (c : Dev nD) (i : S32768x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

theorem flushed15 (c : Dev nD) (t : Fin cfg0.N) :
    (dats m 0 c).flushed 15 t = (cfg0.win 15).cut (grid0.coords t) ((outsAt0 m c t).2.2.2.1) := by
  show (cfg0.win 15).cut (grid0.coords t) ((dats m 0 c).after 15 t) = _
  rw [after0_15]

theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed15, outsAt0]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem entry15 (c : Dev nD) (i : S32768x512.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

theorem flushed16 (c : Dev nD) (t : Fin cfg0.N) :
    (dats m 0 c).flushed 16 t = (cfg0.win 16).cut (grid0.coords t) ((outsAt0 m c t).2.2.2.2.1) := by
  show (cfg0.win 16).cut (grid0.coords t) ((dats m 0 c).after 16 t) = _
  rw [after0_16]

theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed16, outsAt0]

theorem idx_inj16 : ∀ t t' : Fin cfg0.N, win0_16.index t = win0_16.index t' → t = t' :=
  (by decide +kernel : ∀ t t' : Fin grid0.N, win0_16.index t = win0_16.index t' → t = t')

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

theorem entry16 (c : Dev nD) (i : S384x32768.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

theorem flushed17 (c : Dev nD) (t : Fin cfg0.N) :
    (dats m 0 c).flushed 17 t = (cfg0.win 17).cut (grid0.coords t) ((outsAt0 m c t).2.2.2.2.2.1) := by
  show (cfg0.win 17).cut (grid0.coords t) ((dats m 0 c).after 17 t) = _
  rw [after0_17]

theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed17, outsAt0]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S384x32768.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t).2.2.2.2.2.2.1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed18, outsAt0]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S128x480x256.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem flushed19 (c : Dev nD) (t : Fin cfg0.N) :
    (dats m 0 c).flushed 19 t = (cfg0.win 19).cut (grid0.coords t) ((outsAt0 m c t).2.2.2.2.2.2.2.1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed19, outsAt0]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S128x32768.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) ((outsAt0 m c t).2.2.2.2.2.2.2.2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed20, outsAt0]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S256x32768.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) ((outsAt0 m c t).2.2.2.2.2.2.2.2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed21, outsAt0]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S256x32768.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) ((outsAt0 m c t).2.2.2.2.2.2.2.2.2.2) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed22, outsAt0]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S8x32768.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem post12 (r : PUnit × MemSt nD τ sig (Elt F)) (h : Pipeline.FramePost cfgs (dats m) 0 (V m) r) (c : Dev nD) :
    r.2.mem ((c : Thread nD τ).loc main_v47_0) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v47_1) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v47_2) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v47_3) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v47_4) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v47_5) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v47_6) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v47_7) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v47_8) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v47_9) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v47_10) = (dats m 0 c).arrAt 22 cfg0.N :=
  (h c).1 22

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

set_option maxHeartbeats 306900 in
theorem run_blocks : θ_run defs (onTc (τ := τ) (main (F := F))) ⟨m, fun _ => 0, ρ⟩ fun r => ∀ c : Dev nD,
      r.2.mem ((c : Thread nD τ).loc main_v47_0) = (dats m 0 c).arrAt 12 cfg0.N
      ∧ r.2.mem ((c : Thread nD τ).loc main_v47_1) = (dats m 0 c).arrAt 13 cfg0.N
      ∧ r.2.mem ((c : Thread nD τ).loc main_v47_2) = (dats m 0 c).arrAt 14 cfg0.N
      ∧ r.2.mem ((c : Thread nD τ).loc main_v47_3) = (dats m 0 c).arrAt 15 cfg0.N
      ∧ r.2.mem ((c : Thread nD τ).loc main_v47_4) = (dats m 0 c).arrAt 16 cfg0.N
      ∧ r.2.mem ((c : Thread nD τ).loc main_v47_5) = (dats m 0 c).arrAt 17 cfg0.N
      ∧ r.2.mem ((c : Thread nD τ).loc main_v47_6) = (dats m 0 c).arrAt 18 cfg0.N
      ∧ r.2.mem ((c : Thread nD τ).loc main_v47_7) = (dats m 0 c).arrAt 19 cfg0.N
      ∧ r.2.mem ((c : Thread nD τ).loc main_v47_8) = (dats m 0 c).arrAt 20 cfg0.N
      ∧ r.2.mem ((c : Thread nD τ).loc main_v47_9) = (dats m 0 c).arrAt 21 cfg0.N
      ∧ r.2.mem ((c : Thread nD τ).loc main_v47_10) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.InProjIdeal.Value

end
-- ==== Proof.InFin.lean ====
/- The input projection's eleven results, whole: what the blocks leave is what the reference computes. -/
module

public import proofs.«01_k».proof.Proof.InTile
public import proofs.«01_k».proof.Proof.InVals
public import proofs.«01_k».proof.Proof.InReal
public import proofs.«01_k».proof.Proof.InOut
public import proofs.«01_k».proof.Proof.InValue

@[expose] public section

set_option maxRecDepth 16384
set_option maxHeartbeats 1000000

noncomputable section

namespace Cert.InVal

open Cert.InProjIdeal Cert.InProjIdeal.Gen Idealize.ShloMosaic Idealize.ShloMosaic.TcCoe Idealize.ShloMosaic.Tactic
open Cert.InRef (bOf sOf rope6 rope2 norm6 norm2 cutMq cutMk cutSq cutSk rows6A meanA rows2A xqkA cols6A mvA svA xvA xoA gatesA)
open Cert.InSpec Cert.InKer

variable (m : (ℓ : Loc nD τ sig) → Buf (Elt Ideal) ℓ) (c : Dev nD) (t : Fin cfg0.N)

/-- The heads after normalisation and rotation, over this program's arguments. -/
abbrev mkA : FVec Ideal Cert.InProjRefIdeal.S2x16384x6x64 .f32 := rope6 (norm6 (cutMk (P m c)) (A6 m c)) (A9 m c) (A10 m c)
abbrev skA : FVec Ideal Cert.InProjRefIdeal.S2x16384x2x64 .f32 := rope2 (norm2 (cutSk (P m c)) (A8 m c)) (A9 m c) (A10 m c)
abbrev mqA : FVec Ideal Cert.InProjRefIdeal.S2x16384x6x64 .f32 := rope6 (norm6 (cutMq (P m c)) (A5 m c)) (A9 m c) (A10 m c)
abbrev sqA : FVec Ideal Cert.InProjRefIdeal.S2x16384x6x64 .f32 := rope6 (norm6 (cutSq (P m c)) (A7 m c)) (A9 m c) (A10 m c)

theorem mk_at (R : Fin 32768) (h : Fin 6) (d : Fin 64) : mkA m c (ix4 (bOf R) (sOf R) h d)
    = roped m c R (fun e => pr m c R ⟨384 + (h.val * 64 + e.val), by omega⟩) (fun e => A6 m c (ix1 e)) d := by
  simp only [mkA, InRef.rope6_at, InRef.norm6_at, InRef.cutMk_at]
  rfl
theorem sk_at (R : Fin 32768) (h : Fin 2) (d : Fin 64) : skA m c (ix4 (bOf R) (sOf R) h d)
    = roped m c R (fun e => pr m c R ⟨1536 + (h.val * 64 + e.val), by omega⟩) (fun e => A8 m c (ix1 e)) d := by
  simp only [skA, InRef.rope2_at, InRef.norm2_at, InRef.cutSk_at]
  rfl
theorem mq_at (R : Fin 32768) (h : Fin 6) (d : Fin 64) : mqA m c (ix4 (bOf R) (sOf R) h d)
    = roped m c R (fun e => pr m c R ⟨h.val * 64 + e.val, by omega⟩) (fun e => A5 m c (ix1 e)) d := by
  simp only [mqA, InRef.rope6_at, InRef.norm6_at, InRef.cutMq_at]
  rfl
theorem sq_at (R : Fin 32768) (h : Fin 6) (d : Fin 64) : sqA m c (ix4 (bOf R) (sOf R) h d)
    = roped m c R (fun e => pr m c R ⟨1152 + (h.val * 64 + e.val), by omega⟩) (fun e => A7 m c (ix1 e)) d := by
  simp only [sqA, InRef.rope6_at, InRef.norm6_at, InRef.cutSq_at]
  rfl

/-- The kernel's lanes of a block-attention key head. -/
theorem kr_mk (hR : Reals m c) (r : Fin 1024) (h : Fin 6) (d : Fin 64) (n : Fin 512) (hn : n.val = h.val * 64 + d.val) :
    kr m c t (ix2 r n) = mkA m c (ix4 (bOf (row t r)) (sOf (row t r)) h d) := by
  rw [show n = ⟨(⟨h.val, by omega⟩ : Fin 8).val * 64 + d.val, by simp only; omega⟩ from Fin.ext hn]
  rw [kr_at m c t hR r ⟨h.val, by omega⟩ d, mk_at]
  refine congrArg₂ (fun f g => roped m c (row t r) f g d) (funext fun e => congrArg _ (Fin.ext ?_)) (funext fun e => if_pos h.isLt)
  simp only [natCol]
  split_ifs <;> omega

/-- The kernel's lanes of a window-attention key head. -/
theorem kr_sk (hR : Reals m c) (r : Fin 1024) (h : Fin 2) (d : Fin 64) (n : Fin 512) (hn : n.val = 384 + (h.val * 64 + d.val)) :
    kr m c t (ix2 r n) = skA m c (ix4 (bOf (row t r)) (sOf (row t r)) h d) := by
  rw [show n = ⟨(⟨6 + h.val, by omega⟩ : Fin 8).val * 64 + d.val, by simp only; omega⟩ from Fin.ext (by simp only; omega)]
  rw [kr_at m c t hR r ⟨6 + h.val, by omega⟩ d, sk_at]
  refine congrArg₂ (fun f g => roped m c (row t r) f g d) (funext fun e => congrArg _ (Fin.ext ?_)) (funext fun e => if_neg (by simp only; omega))
  simp only [natCol]
  split_ifs <;> omega

theorem head6 (n : Fin 384) : ∃ (h : Fin 6) (d : Fin 64), n = ⟨h.val * 64 + d.val, by omega⟩ :=
  ⟨⟨n.val / 64, by omega⟩, ⟨n.val % 64, by omega⟩, Fin.ext (by simp only; omega)⟩
theorem head2 (n : Fin 128) : ∃ (h : Fin 2) (d : Fin 64), n = ⟨h.val * 64 + d.val, by omega⟩ :=
  ⟨⟨n.val / 64, by omega⟩, ⟨n.val % 64, by omega⟩, Fin.ext (by simp only; omega)⟩
theorem head80 (n : Fin 480) : ∃ (h : Fin 6) (d : Fin 80), n = ⟨h.val * 80 + d.val, by omega⟩ :=
  ⟨⟨n.val / 80, by omega⟩, ⟨n.val % 80, by omega⟩, Fin.ext (by simp only; omega)⟩

theorem block12 (hR : Reals m c) (r : Fin 1024) (n : Fin 384) : (outsAt0 m c t).1 (ix2 r n) = rows6A (mkA m c) (ix2 (row t r) n) := by
  obtain ⟨h, d, rfl⟩ := head6 n
  refine Eq.trans ?_ (InRef.rows6_at (row t r) (mkA m c) h d).symm
  unfold outsAt0
  frame_out
  rw [pay12_at]
  exact kr_mk m c t hR r h d _ rfl

theorem block13 (hR : Reals m c) (j : Fin 4) (n : Fin 384) : (outsAt0 m c t).2.1 (ix3 0 j n) = meanA (mkA m c) (ix3 ⟨t.val, lt_step t⟩ j n) := by
  obtain ⟨h, d, rfl⟩ := head6 n
  have ht := lt_step t
  refine Eq.trans ?_ (InRef.mean_at (mkA m c) ⟨t.val, ht⟩ j h d).symm
  unfold outsAt0
  frame_out
  rw [pay14_at _ _ (fun n => pay13_at _ _ _ _ _ n)]
  refine congrArg (fun z => Ideal.div z _) (Finset.sum_congr rfl fun q _ => ?_)
  rw [pay11_at]
  refine (kr_mk m c t hR _ h d _ rfl).trans ?_
  refine congrArg₂ (fun u w => mkA m c (ix4 u w h d)) (Fin.ext ?_) (Fin.ext ?_)
  · simp only [row]; omega
  · simp only [row]; omega

theorem block14 (hR : Reals m c) (r : Fin 1024) (n : Fin 128) : (outsAt0 m c t).2.2.1 (ix2 r n) = rows2A (skA m c) (ix2 (row t r) n) := by
  obtain ⟨h, d, rfl⟩ := head2 n
  refine Eq.trans ?_ (InRef.rows2_at (row t r) (skA m c) h d).symm
  unfold outsAt0
  frame_out
  rw [pay15_at]
  exact kr_sk m c t hR r h d _ rfl

theorem block15 (r : Fin 1024) (n : Fin 512) : (outsAt0 m c t).2.2.2.1 (ix2 r n) = xqkA (P m c) (ix2 (row t r) n) := by
  refine Eq.trans ?_ (InRef.xqk_at (P m c) (row t r) n).symm
  unfold outsAt0
  frame_out
  rw [pay16_at, nat_at]
  refine congrArg _ (Fin.ext ?_)
  simp only [natCol]
  split_ifs <;> omega

theorem block16 (n : Fin 384) (r : Fin 1024) : (outsAt0 m c t).2.2.2.2.1 (ix2 n r) = cols6A (mqA m c) (ix2 n (row t r)) := by
  obtain ⟨h, d, rfl⟩ := head6 n
  exact (mq_block m c t h d r).trans ((InRef.cols6_at (row t r) (mqA m c) h d).trans (mq_at m c (row t r) h d)).symm

theorem block17 (n : Fin 384) (r : Fin 1024) : (outsAt0 m c t).2.2.2.2.2.1 (ix2 n r) = cols6A (sqA m c) (ix2 n (row t r)) := by
  obtain ⟨h, d, rfl⟩ := head6 n
  exact (sq_block m c t h d r).trans ((InRef.cols6_at (row t r) (sqA m c) h d).trans (sq_at m c (row t r) h d)).symm

theorem block18 (j : Fin 4) (n : Fin 480) (l : Fin 256) :
    (outsAt0 m c t).2.2.2.2.2.2.1 (ix3 j n l) = mvA (P m c) (ix3 ⟨t.val * 4 + j.val, by have := lt_step t; omega⟩ n l) := by
  obtain ⟨h, d, rfl⟩ := head80 n
  have ht := lt_step t
  refine (mv_block m c t j h d l).trans (Eq.trans ?_ (InRef.mv_at (P m c) ⟨t.val * 4 + j.val, by omega⟩ h d l).symm)
  by_cases hd : d.val < 64
  · rw [if_pos hd, dif_pos hd, tr_at]
    unfold pr
    refine congrArg (P m c) ?_
    refine congr (congrArg₂ ix3 (Fin.ext ?_) (Fin.ext ?_)) (Fin.ext ?_)
    · simp only [row]; omega
    · simp only [row]; omega
    · simp only [trCol]; split_ifs <;> omega
  · rw [if_neg hd, dif_neg hd]

theorem block19 (n : Fin 128) (r : Fin 1024) : (outsAt0 m c t).2.2.2.2.2.2.2.1 (ix2 n r) = svA (P m c) (ix2 n (row t r)) := by
  refine Eq.trans ?_ (InRef.sv_at (P m c) (row t r) n).symm
  unfold outsAt0
  frame_out
  rw [pay2_at, tr_at]
  refine congrArg _ (Fin.ext ?_)
  simp only [trCol]
  split_ifs <;> omega

theorem block20 (n : Fin 256) (r : Fin 1024) : (outsAt0 m c t).2.2.2.2.2.2.2.2.1 (ix2 n r) = xvA (P m c) (ix2 n (row t r)) := by
  refine Eq.trans ?_ (InRef.xv_at (P m c) (row t r) n).symm
  unfold outsAt0
  frame_out
  rw [pay3_at, tr_at]
  refine congrArg _ (Fin.ext ?_)
  simp only [trCol]
  split_ifs <;> omega

theorem block21 (n : Fin 256) (r : Fin 1024) : (outsAt0 m c t).2.2.2.2.2.2.2.2.2.1 (ix2 n r) = xoA (P m c) (ix2 n (row t r)) := by
  refine Eq.trans ?_ (InRef.xo_at (P m c) (row t r) n).symm
  unfold outsAt0
  frame_out
  rw [pay4_at, tr_at]
  refine congrArg _ (Fin.ext ?_)
  simp only [trCol]
  split_ifs <;> omega

theorem block22 (n : Fin 8) (r : Fin 1024) : (outsAt0 m c t).2.2.2.2.2.2.2.2.2.2 (ix2 n r) = gatesA (P m c) (A3 m c) (A4 m c) (ix2 n (row t r)) := by
  refine Eq.trans ?_ (InRef.gates_at (P m c) (row t r) (A3 m c) (A4 m c) n).symm
  unfold outsAt0
  frame_out
  rw [lanes8_at _ _ n _ (fun l => blkGb m c t n l) r, tr_at]
  unfold pr
  by_cases hn : n.val < 4
  · rw [dif_pos hn, dif_pos hn]
    refine congrArg (fun z => P m c (ix3 _ _ z) + _) (Fin.ext ?_)
    simp only [trCol]
    split_ifs <;> omega
  · rw [dif_neg hn, dif_neg hn]
    refine congrArg (fun z => P m c (ix3 _ _ z) + _) (Fin.ext ?_)
    simp only [trCol]
    split_ifs <;> omega

theorem final12 (hR : Reals m c) : (dats m 0 c).arrAt 12 (cfgs 0).N = rows6A (mkA m c) := by
  refine (dats m 0 c).arrAt_eq_of_covers 12 _ (by decide +kernel) fun t _ y => ?_
  blk_simp
  rw [after0_12]
  obtain ⟨r, n, rfl⟩ : ∃ (r : Fin 1024) (n : Fin 384), y = ix2 r n := ⟨y 0, y 1, by blk_ext⟩
  refine (block12 m c t hR r n).trans (congrArg _ ?_)
  blk_ext [idxOut t, row]

theorem final13 (hR : Reals m c) : (dats m 0 c).arrAt 13 (cfgs 0).N = meanA (mkA m c) := by
  refine (dats m 0 c).arrAt_eq_of_covers 13 _ (by decide +kernel) fun t _ y => ?_
  blk_simp
  rw [after0_13]
  obtain ⟨j, n, rfl⟩ : ∃ (j : Fin 4) (n : Fin 384), y = ix3 0 j n := ⟨y 1, y 2, by blk_ext⟩
  refine (block13 m c t hR j n).trans (congrArg _ ?_)
  blk_ext [idxOut t, row]

theorem final14 (hR : Reals m c) : (dats m 0 c).arrAt 14 (cfgs 0).N = rows2A (skA m c) := by
  refine (dats m 0 c).arrAt_eq_of_covers 14 _ (by decide +kernel) fun t _ y => ?_
  blk_simp
  rw [after0_14]
  obtain ⟨r, n, rfl⟩ : ∃ (r : Fin 1024) (n : Fin 128), y = ix2 r n := ⟨y 0, y 1, by blk_ext⟩
  refine (block14 m c t hR r n).trans (congrArg _ ?_)
  blk_ext [idxOut t, row]

theorem final15 : (dats m 0 c).arrAt 15 (cfgs 0).N = xqkA (P m c) := by
  refine (dats m 0 c).arrAt_eq_of_covers 15 _ (by decide +kernel) fun t _ y => ?_
  blk_simp
  rw [after0_15]
  obtain ⟨r, n, rfl⟩ : ∃ (r : Fin 1024) (n : Fin 512), y = ix2 r n := ⟨y 0, y 1, by blk_ext⟩
  refine (block15 m c t r n).trans (congrArg _ ?_)
  blk_ext [idxOut t, row]

theorem final16 : (dats m 0 c).arrAt 16 (cfgs 0).N = cols6A (mqA m c) := by
  refine (dats m 0 c).arrAt_eq_of_covers 16 _ (by decide +kernel) fun t _ y => ?_
  blk_simp
  rw [after0_16]
  obtain ⟨r, n, rfl⟩ : ∃ (r : Fin 384) (n : Fin 1024), y = ix2 r n := ⟨y 0, y 1, by blk_ext⟩
  refine (block16 m c t r n).trans (congrArg _ ?_)
  blk_ext [idxOut t, row]

theorem final17 : (dats m 0 c).arrAt 17 (cfgs 0).N = cols6A (sqA m c) := by
  refine (dats m 0 c).arrAt_eq_of_covers 17 _ (by decide +kernel) fun t _ y => ?_
  blk_simp
  rw [after0_17]
  obtain ⟨r, n, rfl⟩ : ∃ (r : Fin 384) (n : Fin 1024), y = ix2 r n := ⟨y 0, y 1, by blk_ext⟩
  refine (block17 m c t r n).trans (congrArg _ ?_)
  blk_ext [idxOut t, row]

theorem final18 : (dats m 0 c).arrAt 18 (cfgs 0).N = mvA (P m c) := by
  refine (dats m 0 c).arrAt_eq_of_covers 18 _ (by decide +kernel) fun t _ y => ?_
  blk_simp
  rw [after0_18]
  obtain ⟨j, n, l, rfl⟩ : ∃ (j : Fin 4) (n : Fin 480) (l : Fin 256), y = ix3 j n l := ⟨y 0, y 1, y 2, by blk_ext⟩
  refine (block18 m c t j n l).trans (congrArg _ ?_)
  blk_ext [idxOut t, row]

theorem final19 : (dats m 0 c).arrAt 19 (cfgs 0).N = svA (P m c) := by
  refine (dats m 0 c).arrAt_eq_of_covers 19 _ (by decide +kernel) fun t _ y => ?_
  blk_simp
  rw [after0_19]
  obtain ⟨r, n, rfl⟩ : ∃ (r : Fin 128) (n : Fin 1024), y = ix2 r n := ⟨y 0, y 1, by blk_ext⟩
  refine (block19 m c t r n).trans (congrArg _ ?_)
  blk_ext [idxOut t, row]

theorem final20 : (dats m 0 c).arrAt 20 (cfgs 0).N = xvA (P m c) := by
  refine (dats m 0 c).arrAt_eq_of_covers 20 _ (by decide +kernel) fun t _ y => ?_
  blk_simp
  rw [after0_20]
  obtain ⟨r, n, rfl⟩ : ∃ (r : Fin 256) (n : Fin 1024), y = ix2 r n := ⟨y 0, y 1, by blk_ext⟩
  refine (block20 m c t r n).trans (congrArg _ ?_)
  blk_ext [idxOut t, row]

theorem final21 : (dats m 0 c).arrAt 21 (cfgs 0).N = xoA (P m c) := by
  refine (dats m 0 c).arrAt_eq_of_covers 21 _ (by decide +kernel) fun t _ y => ?_
  blk_simp
  rw [after0_21]
  obtain ⟨r, n, rfl⟩ : ∃ (r : Fin 256) (n : Fin 1024), y = ix2 r n := ⟨y 0, y 1, by blk_ext⟩
  refine (block21 m c t r n).trans (congrArg _ ?_)
  blk_ext [idxOut t, row]

theorem final22 : (dats m 0 c).arrAt 22 (cfgs 0).N = gatesA (P m c) (A3 m c) (A4 m c) := by
  refine (dats m 0 c).arrAt_eq_of_covers 22 _ (by decide +kernel) fun t _ y => ?_
  blk_simp
  rw [after0_22]
  obtain ⟨r, n, rfl⟩ : ∃ (r : Fin 8) (n : Fin 1024), y = ix2 r n := ⟨y 0, y 1, by blk_ext⟩
  refine (block22 m c t r n).trans (congrArg _ ?_)
  blk_ext [idxOut t, row]

/-- The reference's results over arguments that agree with the kernel's. -/
theorem ref_eq (m' : (ℓ : Loc Cert.InProjRefIdeal.nD Cert.InProjRefIdeal.τ Cert.InProjRefIdeal.sig) → Buf (Elt Ideal) ℓ)
    (h : InRef.a0 m' c = A0 m c ∧ InRef.a1 m' c = A1 m c ∧ InRef.a2 m' c = A2 m c ∧ InRef.a3 m' c = A3 m c ∧ InRef.a4 m' c = A4 m c ∧ InRef.a5 m' c = A5 m c ∧ InRef.a6 m' c = A6 m c ∧ InRef.a7 m' c = A7 m c ∧ InRef.a8 m' c = A8 m c ∧ InRef.a9 m' c = A9 m c ∧ InRef.a10 m' c = A10 m c) :
    rows6A (rope6 (norm6 (cutMk (InRef.pj m' c)) (InRef.a6 m' c)) (InRef.a9 m' c) (InRef.a10 m' c)) = rows6A (mkA m c)
      ∧ meanA (rope6 (norm6 (cutMk (InRef.pj m' c)) (InRef.a6 m' c)) (InRef.a9 m' c) (InRef.a10 m' c)) = meanA (mkA m c)
      ∧ rows2A (rope2 (norm2 (cutSk (InRef.pj m' c)) (InRef.a8 m' c)) (InRef.a9 m' c) (InRef.a10 m' c)) = rows2A (skA m c)
      ∧ xqkA (InRef.pj m' c) = xqkA (P m c)
      ∧ cols6A (rope6 (norm6 (cutMq (InRef.pj m' c)) (InRef.a5 m' c)) (InRef.a9 m' c) (InRef.a10 m' c)) = cols6A (mqA m c)
      ∧ cols6A (rope6 (norm6 (cutSq (InRef.pj m' c)) (InRef.a7 m' c)) (InRef.a9 m' c) (InRef.a10 m' c)) = cols6A (sqA m c)
      ∧ mvA (InRef.pj m' c) = mvA (P m c)
      ∧ svA (InRef.pj m' c) = svA (P m c)
      ∧ xvA (InRef.pj m' c) = xvA (P m c)
      ∧ xoA (InRef.pj m' c) = xoA (P m c)
      ∧ gatesA (InRef.pj m' c) (InRef.a3 m' c) (InRef.a4 m' c) = gatesA (P m c) (A3 m c) (A4 m c) := by
  obtain ⟨h0, h1, h2, h3, h4, h5, h6, h7, h8, h9, h10⟩ := h
  have e : InRef.pj m' c = P m c := by
    unfold P
    rw [← h0, ← h1, ← h2]
  rw [e, h3, h4, h5, h6, h7, h8, h9, h10]
  exact ⟨rfl, rfl, rfl, rfl, rfl, rfl, rfl, rfl, rfl, rfl, rfl⟩

end Cert.InVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.OutMlpRefIdeal
public import proofs.«01_k».proof.Proof.Gen.Pre_finite
public import proofs.«01_k».proof.Proof.Gen.OutMlpIdeal.Value
public import proofs.«01_k».proof.Proof.Gen.ReferenceIdeal.Run
public import proofs.«01_k».proof.Proof.Gen.OutMlpRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame.Runs
public import proofs.«01_k».proof.Proof.Gen.InProj.Frame.RunA
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame.Runs
public import proofs.«01_k».proof.Proof.Gen.InProjIdeal.Frame.RunA
public import proofs.«01_k».proof.Proof.Gen.InProjRefIdeal
public import proofs.«01_k».proof.Proof.Gen.Pre_finite3
public import proofs.«01_k».proof.Proof.Gen.InProjRefIdeal.Run
public import proofs.«01_k».proof.Proof.OutVal
public import proofs.«01_k».proof.Proof.SwaFrame
public import proofs.«01_k».proof.Proof.SwaBitsFrame
public import proofs.«01_k».proof.Proof.SwaPre
public import proofs.«01_k».proof.Proof.InFrameBits
public import proofs.«01_k».proof.Proof.InFin
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The output projection and the perceptron, in real arithmetic: the kernel's result is the reference's. -/
theorem algebraic_out : Cert.algebraic_OutMlpIdeal_OutMlpRefIdeal := by
  pair_intro
  · run_from Cert.OutMlpIdeal.Gen.run_main m g
  · run_from Cert.OutMlpRefIdeal.Value.run m' g'
    obtain ⟨h0, h1, h2, h3, h4, h5, h6, h7⟩ := hagree c
    refine (Cert.OutVal.ref_eq m' c).trans ?_
    rw [h0, h1, h2, h3, h4, h5, h6, h7]
    exact (Cert.OutVal.final m c).symm

/-- The reference of the output projection and the perceptron runs and leaves its arguments as they were. -/
theorem frame_outRef : Cert.quiescent_OutMlpRefIdeal := by
  intro m g _
  exact (θ_run Cert.OutMlpRefIdeal.defs _ _).mono (fun r h => ⟨fun c => (h c).2, sem_eq_zero_of_no_sems (by decide) r.2⟩)
    (Cert.OutMlpRefIdeal.Value.run m g)

/-- The reference of the attention runs and leaves its arguments as they were. -/
theorem frame_ref : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The one named constant of the attention kernel is read at the value its name says. -/
theorem preserves_swa : Cert.preserves_Kernel_KernelIdeal := by
  exact IdealRules.named_const.statement Cert.KernelIdeal.κ "log2e" .f32 0x3FB8AA3B#32 _ rfl

/-- The sliding-window attention, in real arithmetic: the kernel's result is the reference's. -/
theorem algebraic_swa : Cert.algebraic_KernelIdeal_ReferenceIdeal_pre_finite := by
  pair_intro
  · run_from Cert.Swa.run_main m g
  · run_from Cert.ReferenceIdeal.Value.run m' g'
    obtain ⟨h0, h1, h2, h3, h4⟩ := hagree c
    exact (Cert.Swa.ref_eq m m' c h1 h2 h3 h4).trans (Cert.Swa.final m c (Cert.Swa.reals_of_pre m ‹_› c)).symm

/-- The reference of the input projection runs and leaves its arguments as they were. -/
theorem frame_inRef : Cert.quiescent_InProjRefIdeal := by
  intro m g _
  exact (θ_run Cert.InProjRefIdeal.defs _ _).mono
    (fun r h => ⟨fun c => (h c).2.2.2.2.2.2.2.2.2.2.2, sem_eq_zero_of_no_sems (by decide) r.2⟩)
    (Cert.InProjRefIdeal.Value.run m g)

set_option maxHeartbeats 4000000 in
/-- The input projection, in real arithmetic: the kernel's eleven results are the reference's. -/
theorem algebraic_in : Cert.algebraic_InProjIdeal_InProjRefIdeal_pre_finite3 := by
  intro m g m' g' hpre hagree
  refine ⟨fun c => Cert.InRef.rows6A (Cert.InVal.mkA m c), fun c => Cert.InRef.meanA (Cert.InVal.mkA m c), fun c => Cert.InRef.rows2A (Cert.InVal.skA m c),
    fun c => Cert.InRef.xqkA (Cert.InVal.P m c), fun c => Cert.InRef.cols6A (Cert.InVal.mqA m c), fun c => Cert.InRef.cols6A (Cert.InVal.sqA m c),
    fun c => Cert.InRef.mvA (Cert.InVal.P m c), fun c => Cert.InRef.svA (Cert.InVal.P m c), fun c => Cert.InRef.xvA (Cert.InVal.P m c),
    fun c => Cert.InRef.xoA (Cert.InVal.P m c), fun c => Cert.InRef.gatesA (Cert.InVal.P m c) (Cert.InVal.A3 m c) (Cert.InVal.A4 m c), ?_, ?_⟩
  · refine θ_run_mono (Cert.InProjIdeal.Value.run_blocks m g) fun r h c => ?_
    obtain ⟨h0, h1, h2, h3, h4, h5, h6, h7, h8, h9, h10, ha⟩ := h c
    have hr := Cert.InVal.reals_of_pre m hpre c
    refine ⟨?_, ?_, ?_, ?_, ?_, ?_, ?_, ?_, ?_, ?_, ?_, ha⟩
    · exact h0.trans (Cert.InVal.final12 m c hr)
    · exact h1.trans (Cert.InVal.final13 m c hr)
    · exact h2.trans (Cert.InVal.final14 m c hr)
    · exact h3.trans (Cert.InVal.final15 m c)
    · exact h4.trans (Cert.InVal.final16 m c)
    · exact h5.trans (Cert.InVal.final17 m c)
    · exact h6.trans (Cert.InVal.final18 m c)
    · exact h7.trans (Cert.InVal.final19 m c)
    · exact h8.trans (Cert.InVal.final20 m c)
    · exact h9.trans (Cert.InVal.final21 m c)
    · exact h10.trans (Cert.InVal.final22 m c)
  · refine θ_run_mono (Cert.InRef.run_out m' g') fun r h c => ?_
    obtain ⟨h0, h1, h2, h3, h4, h5, h6, h7, h8, h9, h10, ha⟩ := h c
    obtain ⟨e0, e1, e2, e3, e4, e5, e6, e7, e8, e9, e10⟩ := Cert.InVal.ref_eq m c m' (hagree c)
    refine ⟨?_, ?_, ?_, ?_, ?_, ?_, ?_, ?_, ?_, ?_, ?_, ha⟩
    · exact h0.trans e0
    · exact h1.trans e1
    · exact h2.trans e2
    · exact h3.trans e3
    · exact h4.trans e4
    · exact h5.trans e5
    · exact h6.trans e6
    · exact h7.trans e7
    · exact h8.trans e8
    · exact h9.trans e9
    · exact h10.trans e10

theorem claim : Cert.Claim := ⟨Cert.Kernel.Gen.facts, Cert.KernelIdeal.Gen.facts, Cert.ReferenceIdeal.Gen.facts, Cert.OutMlp.Gen.facts, Cert.OutMlpIdeal.Gen.facts, Cert.OutMlpRefIdeal.Gen.facts,
  Cert.InProj.Gen.facts, Cert.InProjIdeal.Gen.facts, Cert.InProjRefIdeal.Gen.facts, Cert.Pre_finite.Gen.facts, Cert.Pre_finite3.Gen.facts,
  fun m ρ _ => Cert.SwaBits.frame m ρ, fun m ρ _ => Cert.Swa.frame m ρ, fun m ρ _ => Cert.Swa.frame m ρ, frame_ref, fun m g _ => frame_ref m g trivial,
  fun m ρ _ => Cert.OutMlp.Gen.frame m ρ, fun m ρ _ => Cert.OutMlpIdeal.Gen.frame m ρ, frame_outRef,
  fun m ρ _ => Cert.InProj.Gen.frame m ρ, fun m ρ _ => Cert.InProjIdeal.Gen.frame m ρ, fun m ρ _ => Cert.InProjIdeal.Gen.frame m ρ,
  frame_inRef, fun m g _ => frame_inRef m g trivial,
  preserves_swa, algebraic_swa, trivial, algebraic_out, trivial, algebraic_in⟩

end Cert.Proof

end
